-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39B60B61#32 ((1 / 2880 : ℝ) : EReal)

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42_0) = v0 c
          ∧ r.2.mem ((c.tc : Thread Cert.ReferenceIdeal.nD Cert.ReferenceIdeal.τ).loc Cert.ReferenceIdeal.main_v42_1) = v1 c
          ∧ r.2.mem ((c.tc : Thread Cert.ReferenceIdeal.nD Cert.ReferenceIdeal.τ).loc Cert.ReferenceIdeal.main_v42_2) = v2 c
          ∧ r.2.mem ((c.tc : Thread Cert.ReferenceIdeal.nD Cert.ReferenceIdeal.τ).loc Cert.ReferenceIdeal.main_v42_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S2880x24576 : Shape := ⟨2, ![2880, 24576]⟩
abbrev S64000 : Shape := ⟨1, ![64000]⟩
abbrev S_ : Shape := ⟨0, ![]⟩
abbrev S24576 : Shape := ⟨1, ![24576]⟩
abbrev S6x4096x2880 : Shape := ⟨3, ![6, 4096, 2880]⟩
abbrev S6x2880x4096 : Shape := ⟨3, ![6, 2880, 4096]⟩
abbrev S1 : Shape := ⟨1, ![1]⟩
abbrev S2 : Shape := ⟨1, ![2]⟩
abbrev S24576x1 : Shape := ⟨2, ![24576, 1]⟩
abbrev S48x1x512 : Shape := ⟨3, ![48, 1, 512]⟩
abbrev S2880x512 : Shape := ⟨2, ![2880, 512]⟩
abbrev S1x2880x512 : Shape := ⟨3, ![1, 2880, 512]⟩
abbrev S1x1x512 : Shape := ⟨3, ![1, 1, 512]⟩
abbrev S1x512 : Shape := ⟨2, ![1, 512]⟩
abbrev S8x512 : Shape := ⟨2, ![8, 512]⟩
abbrev S64x512 : Shape := ⟨2, ![64, 512]⟩
abbrev S1x64x512 : Shape := ⟨3, ![1, 64, 512]⟩
abbrev S8x8x512 : Shape := ⟨3, ![8, 8, 512]⟩
abbrev S512 : Shape := ⟨1, ![512]⟩

abbrev nBuf : Space → Nat
  | .hbm => 61
  | .vmem => 21
  | .smem => 1
  | _ => 0

abbrev bufTy : (tb : Table) → Fin (tcTables nBuf tb) → BufTy
  | .hbm, ⟨0, _⟩ => ⟨S2880x24576, .bf16⟩
  | .hbm, ⟨1, _⟩ => ⟨S2880x24576, .fp8e4m3⟩
  | .hbm, ⟨2, _⟩ => ⟨S64000, .f32⟩
  | .hbm, ⟨3, _⟩ => ⟨S64000, .f32⟩
  | .hbm, ⟨4, _⟩ => ⟨S64000, .i32⟩
  | .hbm, ⟨5, _⟩ => ⟨S_, .i32⟩
  | .hbm, ⟨6, _⟩ => ⟨S24576, .i32⟩
  | .hbm, ⟨7, _⟩ => ⟨S6x4096x2880, .bf16⟩
  | .hbm, ⟨8, _⟩ => ⟨S6x2880x4096, .bf16⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S2, .f32⟩
  | .hbm, ⟨21, _⟩ => ⟨S_, .i32⟩
  | .hbm, ⟨22, _⟩ => ⟨S24576, .i32⟩
  | .hbm, ⟨23, _⟩ => ⟨S24576, .i1⟩
  | .hbm, ⟨24, _⟩ => ⟨S_, .i32⟩
  | .hbm, ⟨25, _⟩ => ⟨S24576, .i32⟩
  | .hbm, ⟨26, _⟩ => ⟨S24576, .i32⟩
  | .hbm, ⟨27, _⟩ => ⟨S24576, .i32⟩
  | .hbm, ⟨28, _⟩ => ⟨S24576x1, .i32⟩
  | .hbm, ⟨29, _⟩ => ⟨S24576, .f32⟩
  | .hbm, ⟨30, _⟩ => ⟨S48x1x512, .f32⟩
  | .hbm, ⟨31, _⟩ => ⟨S_, .i32⟩
  | .hbm, ⟨32, _⟩ => ⟨S24576, .i32⟩
  | .hbm, ⟨33, _⟩ => ⟨S24576, .i1⟩
  | .hbm, ⟨34, _⟩ => ⟨S_, .i32⟩
  | .hbm, ⟨35, _⟩ => ⟨S24576, .i32⟩
  | .hbm, ⟨36, _⟩ => ⟨S24576, .i32⟩
  | .hbm, ⟨37, _⟩ => ⟨S24576, .i32⟩
  | .hbm, ⟨38, _⟩ => ⟨S24576x1, .i32⟩
  | .hbm, ⟨39, _⟩ => ⟨S24576, .f32⟩
  | .hbm, ⟨40, _⟩ => ⟨S48x1x512, .f32⟩
  | .hbm, ⟨41, _⟩ => ⟨S_, .i32⟩
  | .hbm, ⟨42, _⟩ => ⟨S24576, .i32⟩
  | .hbm, ⟨43, _⟩ => ⟨S24576, .i1⟩
  | .hbm, ⟨44, _⟩ => ⟨S_, .i32⟩
  | .hbm, ⟨45, _⟩ => ⟨S24576, .i32⟩
  | .hbm, ⟨46, _⟩ => ⟨S24576, .i32⟩
  | .hbm, ⟨47, _⟩ => ⟨S24576, .i32⟩
  | .hbm, ⟨48, _⟩ => ⟨S24576x1, .i32⟩
  | .hbm, ⟨49, _⟩ => ⟨S24576, .i32⟩
  | .hbm, ⟨50, _⟩ => ⟨S24576, .i32⟩
  | .hbm, ⟨51, _⟩ => ⟨S24576, .i32⟩
  | .hbm, ⟨52, _⟩ => ⟨S24576, .f32⟩
  | .hbm, ⟨53, _⟩ => ⟨S_, .f32⟩
  | .hbm, ⟨54, _⟩ => ⟨S24576, .f32⟩
  | .hbm, ⟨55, _⟩ => ⟨S24576, .f32⟩
  | .hbm, ⟨56, _⟩ => ⟨S48x1x512, .f32⟩
  | .hbm, ⟨57, _⟩ => ⟨S2880x24576, .bf16⟩
  | .hbm, ⟨58, _⟩ => ⟨S2880x24576, .fp8e4m3⟩
  | .hbm, ⟨59, _⟩ => ⟨S48x1x512, .f32⟩
  | .hbm, ⟨60, _⟩ => ⟨S48x1x512, .f32⟩
  | .local _ .vmem, ⟨0, _⟩ => ⟨S2880x512, .fp8e4m3⟩
  | .local _ .vmem, ⟨1, _⟩ => ⟨S2880x512, .fp8e4m3⟩
  | .local _ .vmem, ⟨2, _⟩ => ⟨S2880x512, .bf16⟩
  | .local _ .vmem, ⟨3, _⟩ => ⟨S2880x512, .bf16⟩
  | .local _ .vmem, ⟨4, _⟩ => ⟨S1x2880x512, .bf16⟩
  | .local _ .vmem, ⟨5, _⟩ => ⟨S1x2880x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S2880x512, .bf16⟩
  | .local _ .vmem, ⟨13, _⟩ => ⟨S2880x512, .bf16⟩
  | .local _ .vmem, ⟨14, _⟩ => ⟨S2880x512, .fp8e4m3⟩
  | .local _ .vmem, ⟨15, _⟩ => ⟨S2880x512, .fp8e4m3⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S2880x512, .f32⟩
  | .local _ .smem, ⟨0, _⟩ => ⟨S2, .f32⟩
  | _, _ => ⟨S2880x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v40_3 : Ref sig .tc := ⟨.hbm, 60, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c45_i32 : BitVec 32 := 45#32
  let v13 : BitVec 32 := Scalar.addi c0_i32 c45_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_52 : BitVec 32 := 64#32
  let v137 : BitVec 32 := Scalar.muli arg13 c64_i32_52
  v137
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_52 : BitVec 32 := 64#32
  let v137 : BitVec 32 := Scalar.muli arg13 c64_i32_52
  let v138 : BitVec 32 := v137
  let v139 : Index := Scalar.indexCast v138
  let c0_53 : Index := 0#32
  ![v139.toNat, 0]
def k0_off2 (k0_t1 : Fin k0_t1_loop.trips) : Fin 3 → Nat :=
  let c0_54 : Index := 0#32
  let c0_i32 : BitVec 32 := 0#32
  let c1_i32 : BitVec 32 := 1#32
  let arg13 : BitVec 32 := Scf.iv c0_i32 c1_i32 k0_t1
  let c64_i32_52 : BitVec 32 := 64#32
  let v137 : BitVec 32 := Scalar.muli arg13 c64_i32_52
  let v138 : BitVec 32 := v137
  let v142 : Index := Scalar.indexCast v138
  let c0_55 : Index := 0#32
  ![0, v142.toNat, 0]
@[reducible] def k0_t2_loop : Scf.Loop 32 :=
  let c0_i32_48 : BitVec 32 := 0#32
  let c45_i32_49 : BitVec 32 := 45#32
  let v136 : BitVec 32 := Scalar.addi c0_i32_48 c45_i32_49
  let c1_i32_50 : BitVec 32 := 1#32
  ⟨c0_i32_48, v136, c1_i32_50⟩
def k0_mult2 (k0_t2 : Fin k0_t2_loop.trips) : BitVec 32 :=
  let c0_i32_48 : BitVec 32 := 0#32
  let c1_i32_50 : BitVec 32 := 1#32
  let arg13 : BitVec 32 := Scf.iv c0_i32_48 c1_i32_50 k0_t2
  let c64_i32_52 : BitVec 32 := 64#32
  let v137 : BitVec 32 := Scalar.muli arg13 c64_i32_52
  v137
def k0_off3 (k0_t2 : Fin k0_t2_loop.trips) : Fin 2 → Nat :=
  let c0_i32_48 : BitVec 32 := 0#32
  let c1_i32_50 : BitVec 32 := 1#32
  let arg13 : BitVec 32 := Scf.iv c0_i32_48 c1_i32_50 k0_t2
  let c64_i32_52 : BitVec 32 := 64#32
  let v137 : BitVec 32 := Scalar.muli arg13 c64_i32_52
  let v138 : BitVec 32 := v137
  let v139 : Index := Scalar.indexCast v138
  let c0_53 : Index := 0#32
  ![v139.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2880x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2880x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2880x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2880x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_d" => some ((1 / 2880 : ℝ) : EReal)
  | _ => none
-- ==== Reference.lean ====
abbrev S2880x24576 : Shape := ⟨2, ![2880, 24576]⟩
abbrev S64000 : Shape := ⟨1, ![64000]⟩
abbrev S_ : Shape := ⟨0, ![]⟩
abbrev S24576 : Shape := ⟨1, ![24576]⟩
abbrev S6x4096x2880 : Shape := ⟨3, ![6, 4096, 2880]⟩
abbrev S24576x1 : Shape := ⟨2, ![24576, 1]⟩
abbrev S24576x2880 : Shape := ⟨2, ![24576, 2880]⟩
abbrev S1 : Shape := ⟨1, ![1]⟩
abbrev S2 : Shape := ⟨1, ![2]⟩
abbrev S1x2 : Shape := ⟨2, ![1, 2]⟩
abbrev S1x24576 : Shape := ⟨2, ![1, 24576]⟩
abbrev S48x1x512 : Shape := ⟨3, ![48, 1, 512]⟩
abbrev S1x1 : Shape := ⟨2, ![1, 1]⟩

abbrev nBuf : Space → Nat
  | .hbm => 63
  | .vmem => 11
  | .smem => 0
  | _ => 0

abbrev bufTy : (tb : Table) → Fin (tcTables nBuf tb) → BufTy
  | .hbm, ⟨0, _⟩ => ⟨S2880x24576, .bf16⟩
  | .hbm, ⟨1, _⟩ => ⟨S2880x24576, .fp8e4m3⟩
  | .hbm, ⟨2, _⟩ => ⟨S64000, .f32⟩
  | .hbm, ⟨3, _⟩ => ⟨S64000, .f32⟩
  | .hbm, ⟨4, _⟩ => ⟨S64000, .i32⟩
  | .hbm, ⟨5, _⟩ => ⟨S_, .i32⟩
  | .hbm, ⟨6, _⟩ => ⟨S24576, .i32⟩
  | .hbm, ⟨7, _⟩ => ⟨S6x4096x2880, .bf16⟩
  | .hbm, ⟨8, _⟩ => ⟨S_, .i32⟩
  | .hbm, ⟨9, _⟩ => ⟨S24576, .i32⟩
  | .hbm, ⟨10, _⟩ => ⟨S24576, .i1⟩
  | .hbm, ⟨11, _⟩ => ⟨S_, .i32⟩
  | .hbm, ⟨12, _⟩ => ⟨S24576, .i32⟩
  | .hbm, ⟨13, _⟩ => ⟨S24576, .i32⟩
  | .hbm, ⟨14, _⟩ => ⟨S24576, .i32⟩
  | .hbm, ⟨15, _⟩ => ⟨S24576x1, .i32⟩
  | .hbm, ⟨16, _⟩ => ⟨S24576, .f32⟩
  | .hbm, ⟨17, _⟩ => ⟨S_, .i32⟩
  | .hbm, ⟨18, _⟩ => ⟨S24576, .i32⟩
  | .hbm, ⟨19, _⟩ => ⟨S24576, .i1⟩
  | .hbm, ⟨20, _⟩ => ⟨S_, .i32⟩
  | .hbm, ⟨21, _⟩ => ⟨S24576, .i32⟩
  | .hbm, ⟨22, _⟩ => ⟨S24576, .i32⟩
  | .hbm, ⟨23, _⟩ => ⟨S24576, .i32⟩
  | .hbm, ⟨24, _⟩ => ⟨S24576x1, .i32⟩
  | .hbm, ⟨25, _⟩ => ⟨S24576, .f32⟩
  | .hbm, ⟨26, _⟩ => ⟨S_, .i32⟩
  | .hbm, ⟨27, _⟩ => ⟨S24576, .i32⟩
  | .hbm, ⟨28, _⟩ => ⟨S24576, .i1⟩
  | .hbm, ⟨29, _⟩ => ⟨S_, .i32⟩
  | .hbm, ⟨30, _⟩ => ⟨S24576, .i32⟩
  | .hbm, ⟨31, _⟩ => ⟨S24576, .i32⟩
  | .hbm, ⟨32, _⟩ => ⟨S24576, .i32⟩
  | .hbm, ⟨33, _⟩ => ⟨S24576x1, .i32⟩
  | .hbm, ⟨34, _⟩ => ⟨S24576, .i32⟩
  | .hbm, ⟨35, _⟩ => ⟨S24576, .i32⟩
  | .hbm, ⟨36, _⟩ => ⟨S24576, .i32⟩
  | .hbm, ⟨37, _⟩ => ⟨S24576, .f32⟩
  | .hbm, ⟨38, _⟩ => ⟨S_, .f32⟩
  | .hbm, ⟨39, _⟩ => ⟨S24576, .f32⟩
  | .hbm, ⟨40, _⟩ => ⟨S24576, .f32⟩
  | .hbm, ⟨41, _⟩ => ⟨S24576x2880, .bf16⟩
  | .hbm, ⟨42, _⟩ => ⟨S2880x24576, .bf16⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S2, .f32⟩
  | .hbm, ⟨55, _⟩ => ⟨S1x2, .f32⟩
  | .hbm, ⟨56, _⟩ => ⟨S1x24576, .f32⟩
  | .hbm, ⟨57, _⟩ => ⟨S1x24576, .f32⟩
  | .hbm, ⟨58, _⟩ => ⟨S1x24576, .f32⟩
  | .hbm, ⟨59, _⟩ => ⟨S2880x24576, .bf16⟩
  | .hbm, ⟨60, _⟩ => ⟨S2880x24576, .fp8e4m3⟩
  | .hbm, ⟨61, _⟩ => ⟨S48x1x512, .f32⟩
  | .hbm, ⟨62, _⟩ => ⟨S48x1x512, .f32⟩
  | .local _ .vmem, ⟨0, _⟩ => ⟨S1x2, .f32⟩
  | .local _ .vmem, ⟨1, _⟩ => ⟨S2880x24576, .fp8e4m3⟩
  | .local _ .vmem, ⟨2, _⟩ => ⟨S2880x24576, .bf16⟩
  | .local _ .vmem, ⟨3, _⟩ => ⟨S2880x24576, .bf16⟩
  | .local _ .vmem, ⟨4, _⟩ => ⟨S1x24576, .f32⟩
  | .local _ .vmem, ⟨5, _⟩ => ⟨S1x24576, .f32⟩
  | .local _ .vmem, ⟨6, _⟩ => ⟨S1x24576, .f32⟩
  | .local _ .vmem, ⟨7, _⟩ => ⟨S2880x24576, .bf16⟩
  | .local _ .vmem, ⟨8, _⟩ => ⟨S2880x24576, .fp8e4m3⟩
  | .local _ .vmem, ⟨9, _⟩ => ⟨S48x1x512, .f32⟩
  | .local _ .vmem, ⟨10, _⟩ => ⟨S48x1x512, .f32⟩
  | _, _ => ⟨S2880x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_v42_3 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x24576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x24576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2880x24576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x24576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x24576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x24576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2880x24576 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2880x24576 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.BBlock.lean ====
module

public import proofs.«01_k».proof.Proof.Gen.Kernel.Loops
public import Idealize.ShloMosaic.Lib.Pipeline.ValueKit.Tiles

@[expose] public section

noncomputable section

namespace Cert.Kernel.Block

open Idealize.ShloMosaic Idealize.ShloMosaic.TcCoe Cert.Kernel.Gen

variable {F : FTy → Type} [FloatOps F]

/-! ## The values of one block -/

/-- Both loops make 45 trips. -/
theorem trips1 : k0_t1_loop.trips = 45 := by rfl
theorem trips2 : k0_t2_loop.trips = 45 := by rfl

/-- The 64 rows of a trip of the first loop, in a (2880, 512) block, -/
abbrev rowsA (t : Fin k0_t1_loop.trips) : Rect S2880x512 := Rect.unit (k0_off1 t) S64x512.size (k0_off1_inb t)
/-- and in the gradient's block; -/
abbrev rowsG (t : Fin k0_t1_loop.trips) : Rect S1x2880x512 := Rect.unit (k0_off2 t) S1x64x512.size (k0_off2_inb t)
/-- those of a trip of the second. -/
abbrev rowsB (t : Fin k0_t2_loop.trips) : Rect S2880x512 := Rect.unit (k0_off3 t) S64x512.size (k0_off3_inb t)

/-- A (2880, 512) block laid out from its 45 tiles of 64 rows. -/
def untile {α : Type} (f : Fin 45 → S64x512.Idx → α) : S2880x512.Idx → α := fun y =>
  f ⟨(y 0).val / 64, Nat.div_lt_of_lt_mul (y 0).isLt⟩ (fun a => match a with
    | ⟨0, _⟩ => ⟨(y 0).val % 64, Nat.mod_lt _ (by decide)⟩
    | ⟨1, _⟩ => y 1)

theorem untile_rowsA {α : Type} (f : Fin 45 → S64x512.Idx → α) (t : Fin k0_t1_loop.trips) (x : S64x512.Idx) :
    untile f ((rowsA t).emb x) = f (t.cast trips1) x := by
  unfold untile
  have h0 : (((rowsA t).emb x 0 : Fin _) : ℕ) = 64 * t.val + (x 0).val := by
    show k0_off1 t 0 + 1 * (x 0).val = _
    rw [k0_off1_eq]; simp
  have h1 : (((rowsA t).emb x 1 : Fin _) : ℕ) = (x 1).val := by
    show k0_off1 t 1 + 1 * (x 1).val = _
    rw [k0_off1_eq]; simp
  have hx : (x 0).val < 64 := (x 0).isLt
  have e0 : (⟨(((rowsA t).emb x 0 : Fin _) : ℕ) / 64, Nat.div_lt_of_lt_mul ((rowsA t).emb x 0).isLt⟩ : Fin 45) = t.cast trips1 := by
    apply Fin.ext; simp only [Fin.val_cast]; omega
  rw [e0]; congr 1
  funext a
  match a with
  | ⟨0, _⟩ => apply Fin.ext; show _ % 64 = (x 0).val; omega
  | ⟨1, _⟩ => apply Fin.ext; exact h1

theorem untile_rowsB {α : Type} (f : Fin 45 → S64x512.Idx → α) (t : Fin k0_t2_loop.trips) (x : S64x512.Idx) :
    untile f ((rowsB t).emb x) = f (t.cast trips2) x := by
  unfold untile
  have h0 : (((rowsB t).emb x 0 : Fin _) : ℕ) = 64 * t.val + (x 0).val := by
    show k0_off3 t 0 + 1 * (x 0).val = _
    rw [k0_off3_eq]; simp
  have h1 : (((rowsB t).emb x 1 : Fin _) : ℕ) = (x 1).val := by
    show k0_off3 t 1 + 1 * (x 1).val = _
    rw [k0_off3_eq]; simp
  have hx : (x 0).val < 64 := (x 0).isLt
  have e0 : (⟨(((rowsB t).emb x 0 : Fin _) : ℕ) / 64, Nat.div_lt_of_lt_mul ((rowsB t).emb x 0).isLt⟩ : Fin 45) = t.cast trips2 := by
    apply Fin.ext; simp only [Fin.val_cast]; omega
  rw [e0]; congr 1
  funext a
  match a with
  | ⟨0, _⟩ => apply Fin.ext; show _ % 64 = (x 0).val; omega
  | ⟨1, _⟩ => apply Fin.ext; exact h1

theorem cover_rowsB (y : S2880x512.Idx) : ∃ t : Fin k0_t2_loop.trips, y ∈ (rowsB t).set := by
  have h0 : (y 0).val < 2880 := (y 0).isLt
  have h1 : (y 1).val < 512 := (y 1).isLt
  refine ⟨Fin.cast trips2.symm ⟨(y 0).val / 64, by omega⟩, ?_⟩
  rw [Rect.mem_set_unit]
  intro a
  rw [k0_off3_eq]
  match a with
  | ⟨0, _⟩ => exact ⟨by show 64 * ((y 0).val / 64) ≤ (y 0).val; omega, by show (y 0).val < 64 * ((y 0).val / 64) + 64; omega⟩
  | ⟨1, _⟩ => exact ⟨by show 0 ≤ (y 1).val; omega, by show (y 1).val < 0 + 512; omega⟩

theorem cover_rowsA (y : S2880x512.Idx) : ∃ t : Fin k0_t1_loop.trips, y ∈ (rowsA t).set := by
  have h0 : (y 0).val < 2880 := (y 0).isLt
  have h1 : (y 1).val < 512 := (y 1).isLt
  refine ⟨Fin.cast trips1.symm ⟨(y 0).val / 64, by omega⟩, ?_⟩
  rw [Rect.mem_set_unit]
  intro a
  rw [k0_off1_eq]
  match a with
  | ⟨0, _⟩ => exact ⟨by show 64 * ((y 0).val / 64) ≤ (y 0).val; omega, by show (y 0).val < 64 * ((y 0).val / 64) + 64; omega⟩
  | ⟨1, _⟩ => exact ⟨by show 0 ≤ (y 1).val; omega, by show (y 1).val < 0 + 512; omega⟩

section
variable (x0 : Vec F S2 .f32) (x1 : Vec F S2880x512 .fp8e4m3) (x2 : Vec F S2880x512 .bf16) (x3 : Vec F S1x2880x512 .bf16)
  (x4 x5 x6 : Vec F S1x1x512 .f32)

/-- The new moment's tile `t`. -/
def mTile (t : Fin 45) : FVec F S64x512 .f32 :=
  k0_pay8 x6 x4 (View.ld x1 (rowsA (t.cast trips1.symm))) (View.ld x3 (rowsG (t.cast trips1.symm)))

/-- The new moment of the block. -/
def mAll : Vec F S2880x512 .f32 := untile (mTile x1 x3 x4 x6)

/-- What the first loop carries before trip `n`. -/
def acc : ℕ → FVec F S8x512 .f32 × FVec F S8x512 .f32
  | 0 => (k0_pay5, k0_pay5)
  | n + 1 => if h : n < 45 then
      (k0_pay9 x6 x4 (acc n).1 (View.ld x1 (rowsA (Fin.cast trips1.symm ⟨n, h⟩))) (View.ld x3 (rowsG (Fin.cast trips1.symm ⟨n, h⟩))),
        k0_pay10 (acc n).2 (View.ld x3 (rowsG (Fin.cast trips1.symm ⟨n, h⟩))))
    else acc n

/-- The new second moment of the block, as a row. -/
def vRow : FVec F S1x512 .f32 := k0_pay12 x6 (acc x1 x3 x4 x6 45).2 x5
/-- The block's second moments as the kernel stores them. -/
def vOut : Vec F S1x1x512 .f32 := k0_pay13 x6 (acc x1 x3 x4 x6 45).2 x5
/-- The columns' largest magnitudes. -/
def aRow : FVec F S1x512 .f32 := k0_pay11 (acc x1 x3 x4 x6 45).1
/-- The columns' exponents. -/
def eRow : IVec S1x512 32 := k0_pay17 (k0_pay15 (aRow x1 x3 x4 x6)) (k0_pay16 (aRow x1 x3 x4 x6)) 8#32
/-- The block's scales. -/
def sOut : Vec F S1x1x512 .f32 := k0_pay1 (eRow x1 x3 x4 x6) 127#32
/-- The denominators of the update. -/
def dRow (bc2 : Elt F .f32) : FVec F S1x512 .f32 := k0_pay14 bc2 (vRow x1 x3 x4 x5 x6)
/-- The block's new weights. -/
def wOut (bc1 bc2 : Elt F .f32) : Vec F S2880x512 .bf16 :=
  untile fun t => k0_pay2 bc1 (dRow x1 x3 x4 x5 x6 bc2) (mTile x1 x3 x4 x6 t) (View.ld x2 (rowsB (t.cast trips2.symm)))
/-- The block's codes. -/
def cOut : Vec F S2880x512 .fp8e4m3 := untile fun t => k0_pay3 (eRow x1 x3 x4 x6) (mTile x1 x3 x4 x6 t)
end

/-! ## What the loops leave -/
section

theorem tripR1 (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole) (v2 v10 : Vec F S1x1x512 .f32) (X2 : BufTy.Contents (Elt F) arg2.view.ty) (X4 : BufTy.Contents (Elt F) arg4.view.ty) (k : Fin k0_t1_loop.trips) (a : FVec F S8x512 .f32 × FVec F S8x512 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 v2 v10 X2 X4 k a
      = (k0_pay9 v2 v10 a.1 (arg2.view.readAt (Elt F) (rowsA k).toLoadRect X2) (arg4.view.readAt (Elt F) (rowsG k).toLoadRect X4),
        k0_pay10 a.2 (arg4.view.readAt (Elt F) (rowsG k).toLoadRect X4)) := by
  unfold tripR_k0_t1 trip_k0_t1; dsimp only

theorem tripL1 (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole) (v2 v10 : Vec F S1x1x512 .f32) (X2 : BufTy.Contents (Elt F) arg2.view.ty) (X4 : BufTy.Contents (Elt F) arg4.view.ty) (k : Fin k0_t1_loop.trips) (a : FVec F S8x512 .f32 × FVec F S8x512 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v2 v10 X2 X4 k a
      = [⟨rowsA k, k0_pay8 v2 v10 (arg2.view.readAt (Elt F) (rowsA k).toLoadRect X2) (arg4.view.readAt (Elt F) (rowsG k).toLoadRect X4)⟩] := by
  unfold tripL_k0_t1 trip_k0_t1; dsimp only

theorem tripL2 (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole) (v0 : Elt F .f32) (v36 : FVec F S1x512 .f32) (v119 : IVec S1x512 32) (X3 : BufTy.Contents (Elt F) arg3.view.ty) (X12 : BufTy.Contents (Elt F) arg12.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 v0 v36 v119 X3 X12 k
      = ([⟨rowsB k, k0_pay2 v0 v36 (arg12.view.readAt (Elt F) (rowsB k).toLoadRect X12) (arg3.view.readAt (Elt F) (rowsB k).toLoadRect X3)⟩],
        [⟨rowsB k, k0_pay3 v119 (arg12.view.readAt (Elt F) (rowsB k).toLoadRect X12)⟩]) := by
  unfold tripL_k0_t2 trip_k0_t2; dsimp only

section
variable (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole)
variable (x1 : Vec F S2880x512 .fp8e4m3) (x2 : Vec F S2880x512 .bf16) (x3 : Vec F S1x2880x512 .bf16) (x4 x5 x6 : Vec F S1x1x512 .f32)

/-- The first loop's carried pair before trip `n`. -/
theorem st1_acc (X2 : BufTy.Contents (Elt F) arg2.view.ty) (X4 : BufTy.Contents (Elt F) arg4.view.ty)
    (h2 : arg2.view.read (Elt F) X2 = x1) (h4 : arg4.view.read (Elt F) X4 = x3) (n : ℕ) (hn : n ≤ 45) :
    (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) n).1 = acc x1 x3 x4 x6 n := by
  induction n with
  | zero => rfl
  | succ n ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) (Fin.cast trips1.symm ⟨n, hn⟩)
    rw [show ((Fin.cast trips1.symm ⟨n, hn⟩ : Fin _) : ℕ) = n from rfl] at e
    rw [e, tripR1, ih (by omega), acc, dif_pos (show n < 45 from hn), ← h2, ← h4]
    rfl

/-- The first loop's pieces: each is its rows of the new moment, and the rows of the trips so far are covered. -/
theorem st1_pieces (X2 : BufTy.Contents (Elt F) arg2.view.ty) (X4 : BufTy.Contents (Elt F) arg4.view.ty)
    (h2 : arg2.view.read (Elt F) X2 = x1) (h4 : arg4.view.read (Elt F) X4 = x3) (n : ℕ) (hn : n ≤ 45) :
    (∀ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) n).2,
      ∀ x : p.1.shape.Idx, p.2 x = mAll x1 x3 x4 x6 (p.1.emb x))
    ∧ ∀ (t : Fin k0_t1_loop.trips) (y : S2880x512.Idx), t.val < n → y ∈ (rowsA t).set →
      ∃ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) n).2, y ∈ p.1.set := by
  induction n with
  | zero => exact ⟨fun p hp => absurd hp List.not_mem_nil, fun t y ht => absurd ht (Nat.not_lt_zero _)⟩
  | succ n ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) (Fin.cast trips1.symm ⟨n, hn⟩)
    rw [show ((Fin.cast trips1.symm ⟨n, hn⟩ : Fin _) : ℕ) = n from rfl] at e
    rw [e, tripL1]
    obtain ⟨ih1, ih2⟩ := ih (by omega)
    refine ⟨fun p hp => ?_, fun t y ht hy => ?_⟩
    · rcases List.mem_append.mp hp with hp | hp
      · obtain rfl := List.mem_singleton.mp hp
        intro x
        show _ = untile _ ((rowsA _).emb x)
        rw [untile_rowsA, ← h2, ← h4]; rfl
      · exact ih1 p hp
    · rcases Nat.lt_succ_iff_lt_or_eq.mp ht with h | h
      · obtain ⟨p, hp, hy'⟩ := ih2 t y h hy
        exact ⟨p, List.mem_append_right _ hp, hy'⟩
      · obtain rfl : t = Fin.cast trips1.symm ⟨n, hn⟩ := Fin.ext h
        exact ⟨_, List.mem_append_left _ (List.mem_singleton_self _), hy⟩

/-- So the scratch reads the block's new moment after the first loop, whatever it held before. -/
theorem scratch_read (X2 : BufTy.Contents (Elt F) arg2.view.ty) (X4 : BufTy.Contents (Elt F) arg4.view.ty)
    (h2 : arg2.view.read (Elt F) X2 = x1) (h4 : arg4.view.read (Elt F) X4 = x3) (f : BufTy.Contents (Elt F) arg12.view.ty) :
    arg12.view.read (Elt F) (arg12.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) k0_t1_loop.trips).2)
      = mAll x1 x3 x4 x6 := by
  obtain ⟨p1, p2⟩ := st1_pieces 𝒱 c bd i arg1 harg1 arg2 harg2 arg3 harg3 arg4 harg4 arg5 harg5 arg6 harg6 arg7 harg7 arg8 harg8 arg9 harg9 arg10 harg10 arg11 harg11 arg12 harg12 x1 x3 x4 x6 X2 X4 h2 h4 45 le_rfl
  rw [trips1]
  have hc : ∀ y, ∃ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) 45).2, y ∈ p.1.set := fun y => by
    obtain ⟨t, ht⟩ := cover_rowsA y
    exact p2 t y (t.isLt.trans_eq trips1) ht
  rw [View.read_writes_eq_canon _ _ _ hc]
  funext y
  exact View.canon_apply_of_pieces _ _ p1 y (hc y)

/-- The second loop's pieces: each is its rows of the new weights and of the codes, and the rows of the trips so far are
    covered. -/
theorem pb2_pieces (v0 bc2 : Elt F .f32) (X3 : BufTy.Contents (Elt F) arg3.view.ty) (X12 : BufTy.Contents (Elt F) arg12.view.ty)
    (h3 : arg3.view.read (Elt F) X3 = x2) (h12 : arg12.view.read (Elt F) X12 = mAll x1 x3 x4 x6) (n : ℕ) (hn : n ≤ 45) :
    ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).1,
      ∀ x : p.1.shape.Idx, p.2 x = wOut x1 x2 x3 x4 x5 x6 v0 bc2 (p.1.emb x))
    ∧ ∀ (t : Fin k0_t2_loop.trips) (y : S2880x512.Idx), t.val < n → y ∈ (rowsB t).set →
      ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).1, y ∈ p.1.set)
    ∧ ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).2,
      ∀ x : p.1.shape.Idx, p.2 x = cOut x1 x3 x4 x6 (p.1.emb x))
    ∧ ∀ (t : Fin k0_t2_loop.trips) (y : S2880x512.Idx), t.val < n → y ∈ (rowsB t).set →
      ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).2, y ∈ p.1.set) := by
  induction n with
  | zero => exact ⟨⟨fun p hp => absurd hp List.not_mem_nil, fun t y ht => absurd ht (Nat.not_lt_zero _)⟩,
      ⟨fun p hp => absurd hp List.not_mem_nil, fun t y ht => absurd ht (Nat.not_lt_zero _)⟩⟩
  | succ n ih =>
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 (Fin.cast trips2.symm ⟨n, hn⟩)
    rw [show ((Fin.cast trips2.symm ⟨n, hn⟩ : Fin _) : ℕ) = n from rfl, tripL2] at e
    rw [e]
    obtain ⟨⟨ih1, ih2⟩, ih3, ih4⟩ := ih (by omega)
    have hm : arg12.view.readAt (Elt F) (rowsB (Fin.cast trips2.symm ⟨n, hn⟩)).toLoadRect X12 = mTile x1 x3 x4 x6 ⟨n, hn⟩ := by
      funext x
      show arg12.view.read (Elt F) X12 ((rowsB _).emb x) = _
      rw [h12]; exact untile_rowsB _ _ x
    rw [hm]
    refine ⟨⟨fun p hp => ?_, fun t y ht hy => ?_⟩, fun p hp => ?_, fun t y ht hy => ?_⟩
    · rcases List.mem_append.mp hp with hp | hp
      · obtain rfl := List.mem_singleton.mp hp
        intro x
        show _ = untile _ ((rowsB _).emb x)
        rw [untile_rowsB, ← h3]; rfl
      · exact ih1 p hp
    · rcases Nat.lt_succ_iff_lt_or_eq.mp ht with h | h
      · obtain ⟨p, hp, hy'⟩ := ih2 t y h hy
        exact ⟨p, List.mem_append_right _ hp, hy'⟩
      · obtain rfl : t = Fin.cast trips2.symm ⟨n, hn⟩ := Fin.ext h
        exact ⟨_, List.mem_append_left _ (List.mem_singleton_self _), hy⟩
    · rcases List.mem_append.mp hp with hp | hp
      · obtain rfl := List.mem_singleton.mp hp
        intro x
        show _ = untile _ ((rowsB _).emb x)
        rw [untile_rowsB]; rfl
      · exact ih3 p hp
    · rcases Nat.lt_succ_iff_lt_or_eq.mp ht with h | h
      · obtain ⟨p, hp, hy'⟩ := ih4 t y h hy
        exact ⟨p, List.mem_append_right _ hp, hy'⟩
      · obtain rfl : t = Fin.cast trips2.symm ⟨n, hn⟩ := Fin.ext h
        exact ⟨_, List.mem_append_left _ (List.mem_singleton_self _), hy⟩

/-- So the weights' buffer reads the block's new weights after the second loop, -/
theorem w_read (v0 bc2 : Elt F .f32) (X3 : BufTy.Contents (Elt F) arg3.view.ty) (X12 : BufTy.Contents (Elt F) arg12.view.ty)
    (h3 : arg3.view.read (Elt F) X3 = x2) (h12 : arg12.view.read (Elt F) X12 = mAll x1 x3 x4 x6) (f : BufTy.Contents (Elt F) arg8.view.ty) :
    arg8.view.read (Elt F) (arg8.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 k0_t2_loop.trips).1)
      = wOut x1 x2 x3 x4 x5 x6 v0 bc2 := by
  obtain ⟨⟨p1, p2⟩, -⟩ := pb2_pieces 𝒱 c bd i arg1 harg1 arg2 harg2 arg3 harg3 arg4 harg4 arg5 harg5 arg6 harg6 arg7 harg7 arg8 harg8 arg9 harg9 arg10 harg10 arg11 harg11 arg12 harg12 x1 x2 x3 x4 x5 x6 v0 bc2 X3 X12 h3 h12 45 le_rfl
  rw [trips2]
  have hc := fun y => (cover_rowsB y).elim fun t ht => p2 t y (t.isLt.trans_eq trips2) ht
  rw [View.read_writes_eq_canon _ _ _ hc]
  funext y
  exact View.canon_apply_of_pieces _ _ p1 y (hc y)

/-- and the codes' buffer the block's codes. -/
theorem c_read (v0 bc2 : Elt F .f32) (X3 : BufTy.Contents (Elt F) arg3.view.ty) (X12 : BufTy.Contents (Elt F) arg12.view.ty)
    (h3 : arg3.view.read (Elt F) X3 = x2) (h12 : arg12.view.read (Elt F) X12 = mAll x1 x3 x4 x6) (f : BufTy.Contents (Elt F) arg9.view.ty) :
    arg9.view.read (Elt F) (arg9.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 k0_t2_loop.trips).2)
      = cOut x1 x3 x4 x6 := by
  obtain ⟨-, p1, p2⟩ := pb2_pieces 𝒱 c bd i arg1 harg1 arg2 harg2 arg3 harg3 arg4 harg4 arg5 harg5 arg6 harg6 arg7 harg7 arg8 harg8 arg9 harg9 arg10 harg10 arg11 harg11 arg12 harg12 x1 x2 x3 x4 x5 x6 v0 bc2 X3 X12 h3 h12 45 le_rfl
  rw [trips2]
  have hc := fun y => (cover_rowsB y).elim fun t ht => p2 t y (t.isLt.trans_eq trips2) ht
  rw [View.read_writes_eq_canon _ _ _ hc]
  funext y
  exact View.canon_apply_of_pieces _ _ p1 y (hc y)
end

end

end Cert.Kernel.Block

end
-- ==== Proof.BRun.lean ====
module

public import proofs.«01_k».proof.Proof.BBlock
public import proofs.«01_k».proof.Proof.Gen.Kernel.Frame.Runs
public import Idealize.ShloMosaic.Lib.Claim
public import Idealize.ShloMosaic.Lib.Pipeline.Value

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Block

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One of the two bias corrections of the table. -/
def bcAt (x0 : Vec F S2 .f32) (k : Fin 2) : Elt F .f32 := x0 (fun a => match a with | ⟨0, _⟩ => k)

/-- A load of one word of the table reads it. -/
theorem read_bc (arg : Memref sig .tc .smem S2 .f32) (f : BufTy.Contents (Elt F) arg.view.ty) (x : Vec F S2 .f32)
    (h : arg.view.read (Elt F) f = x) (k : Fin 2) (inb : ∀ a, (![k.val] : Fin 1 → ℕ) a + (![1] : Fin 1 → ℕ) a ≤ S2.size a) (hp) :
    arg.view.readAt (Elt F) (Rect.unit (s := S2) ![k.val] ![1] inb).toLoadRect f (Shape.Idx.first hp) = bcAt x k := by
  rw [View.readAt_eq_ld, h]
  show x _ = x _
  congr 1
  funext a
  match a with
  | ⟨0, _⟩ => apply Fin.ext; show k.val + 1 * 0 = k.val; omega

/-- One store of a whole (1, 1, 512) buffer leaves its payload. -/
theorem store_whole (arg : Memref sig .tc .vmem S1x1x512 .f32) (f : BufTy.Contents (Elt F) arg.view.ty) (w : Vec F S1x1x512 .f32) :
    arg.view.read (Elt F) (arg.view.writes (Elt F) f
      [⟨Rect.unit (s := S1x1x512) ![0, 0, 0] S1x1x512.size inb_S1x1x512_S1x1x512_0_0_0, w⟩]) = w := by
  have h0 : (![0, 0, 0] : Fin 3 → ℕ) = fun _ => 0 := by funext a; fin_cases a <;> rfl
  have hm : ∀ y, y ∈ (Rect.unit (s := S1x1x512) ![0, 0, 0] S1x1x512.size inb_S1x1x512_S1x1x512_0_0_0).set :=
    View.mem_set_unit_zero (S := S1x1x512) h0 _
  have hc : ∀ y : S1x1x512.Idx, ∃ pc ∈ [(⟨Rect.unit (s := S1x1x512) ![0, 0, 0] S1x1x512.size inb_S1x1x512_S1x1x512_0_0_0, w⟩ : View.Piece (Elt F) S1x1x512 .f32)],
      y ∈ pc.1.set := fun y => ⟨_, List.mem_singleton_self _, hm y⟩
  rw [View.read_writes_eq_canon _ _ _ hc]
  exact View.canon_unit_zero (S := S1x1x512) h0 _ _

/-- A load of a whole (1, 1, 512) buffer reads its contents. -/
theorem read_whole (arg : Memref sig .tc .vmem S1x1x512 .f32) (f : BufTy.Contents (Elt F) arg.view.ty) (x : Vec F S1x1x512 .f32)
    (h : arg.view.read (Elt F) f = x) :
    arg.view.readAt (Elt F) (Rect.unit (s := S1x1x512) ![0, 0, 0] S1x1x512.size inb_S1x1x512_S1x1x512_0_0_0).toLoadRect f = x := by
  rw [View.readAt_eq_ld, h]
  exact View.ld_unit_zero (by funext a; fin_cases a <;> rfl) _ _

set_option maxHeartbeats 1000000 in
/-- The body's triple, on whole staging memrefs: the inputs' at their contents, the outputs' and the scratch at anything;
    it ends with the inputs as they were and each output at the block's value. -/
theorem body_triple (c : Dev nD) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole)
    (x0 : Vec F S2 .f32) (x1 : Vec F S2880x512 .fp8e4m3) (x2 : Vec F S2880x512 .bf16) (x3 : Vec F S1x2880x512 .bf16) (x4 : Vec F S1x1x512 .f32) (x5 : Vec F S1x1x512 .f32) (x6 : Vec F S1x1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (wOut x1 x2 x3 x4 x5 x6 (bcAt x0 0) (bcAt x0 1)) ∗ owns (c : Thread nD τ) arg9 fullShare (cOut x1 x3 x4 x6) ∗ owns (c : Thread nD τ) arg10 fullShare (sOut x1 x3 x4 x6) ∗ owns (c : Thread nD τ) arg11 fullShare (vOut x1 x3 x4 x5 x6) ∗ (∃ d, owns (c : Thread nD τ) arg12 fullShare d)) -∗ K ⟨⟩))
      ⊢ wp frame (wpE (defs₀ (F := F)) Variants.none c none) E (cc0_adam_update i arg1 harg1 arg2 harg2 arg3 harg3 arg4 harg4 arg5 harg5 arg6 harg6 arg7 harg7 arg8 harg8 arg9 harg9 arg10 harg10 arg11 harg11 arg12 harg12) K := by
  simp only [cc0_adam_update_eq_skeleton]; unfold cc0_adam_update_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
  have e7 := read_whole arg7 f6 x6 hf6
  have e5 := read_whole arg5 f4 x4 hf4
  have e6 := read_whole arg6 f5 x5 hf5
  have hacc := st1_acc Variants.none c none i arg1 harg1 arg2 harg2 arg3 harg3 arg4 harg4 arg5 harg5 arg6 harg6 arg7 harg7 arg8 harg8 arg9 harg9 arg10 harg10 arg11 harg11 arg12 harg12 x1 x3 x4 x6 f1 f3 hf1 hf3 45 le_rfl
  have hN1 : Scf.trips k0_t1_loop.lb k0_t1_loop.ub k0_t1_loop.st = 45 := rfl
  have hN2 : Scf.trips k0_t2_loop.lb k0_t2_loop.ub k0_t2_loop.st = 45 := rfl
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    simp only [e7, e5, e6, hN1, hN2]
    simp only [hacc]
    have hb0 := read_bc arg1 f0 x0 hf0 0 inb_S2_S1_0
    have hb1 := read_bc arg1 f0 x0 hf0 1 inb_S2_S1_1
    simp only [Fin.val_zero, Fin.val_one] at hb0 hb1
    simp only [hb0, hb1]
    exact w_read Variants.none c none i arg1 harg1 arg2 harg2 arg3 harg3 arg4 harg4 arg5 harg5 arg6 harg6 arg7 harg7 arg8 harg8 arg9 harg9 arg10 harg10 arg11 harg11 arg12 harg12 x1 x2 x3 x4 x5 x6 _ _ f2 _ hf2 (scratch_read Variants.none c none i arg1 harg1 arg2 harg2 arg3 harg3 arg4 harg4 arg5 harg5 arg6 harg6 arg7 harg7 arg8 harg8 arg9 harg9 arg10 harg10 arg11 harg11 arg12 harg12 x1 x3 x4 x6 f1 f3 hf1 hf3 fs0) f7
  isplitl [H8]
  · iexists _; isplitr
    swap; · iexact H8
    ipureintro
    sl_unfold_words
    simp only [e7, e5, e6, hN1, hN2]
    simp only [hacc]
    exact c_read Variants.none c none i arg1 harg1 arg2 harg2 arg3 harg3 arg4 harg4 arg5 harg5 arg6 harg6 arg7 harg7 arg8 harg8 arg9 harg9 arg10 harg10 arg11 harg11 arg12 harg12 x1 x2 x3 x4 x5 x6 _ _ f2 _ hf2 (scratch_read Variants.none c none i arg1 harg1 arg2 harg2 arg3 harg3 arg4 harg4 arg5 harg5 arg6 harg6 arg7 harg7 arg8 harg8 arg9 harg9 arg10 harg10 arg11 harg11 arg12 harg12 x1 x3 x4 x6 f1 f3 hf1 hf3 fs0) f8
  isplitl [H9]
  · iexists _; isplitr
    swap; · iexact H9
    ipureintro
    sl_unfold_words
    simp only [e7, e5, e6, hN1, hN2]
    simp only [hacc]
    exact store_whole arg10 _ _
  isplitl [H10]
  · iexists _; isplitr
    swap; · iexact H10
    ipureintro
    sl_unfold_words
    simp only [e7, e5, e6, hN1, hN2]
    simp only [hacc]
    exact store_whole arg11 _ _
  iexists _, _; isplitr; swap; · iexact HS0
  ipureintro; rfl

/-! ## The pipeline's proof data -/

/-- The proof data of the one pipeline on core `c`: the arrays as the region finds them (`V`); after the body at
    point `t` each input's buffer at its block and the outputs' at the block's values (Block); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wOut (iblk m c 1 t) (iblk m c 2 t) (iblk m c 3 t) (iblk m c 4 t) (iblk m c 5 t) (iblk m c 6 t) (bcAt (iblk m c 0 t) 0) (bcAt (iblk m c 0 t) 1)
    | ⟨8, _⟩ => cOut (iblk m c 1 t) (iblk m c 3 t) (iblk m c 4 t) (iblk m c 6 t)
    | ⟨9, _⟩ => sOut (iblk m c 1 t) (iblk m c 3 t) (iblk m c 4 t) (iblk m c 6 t)
    | ⟨10, _⟩ => vOut (iblk m c 1 t) (iblk m c 3 t) (iblk m c 4 t) (iblk m c 5 t) (iblk m c 6 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = wOut (iblk m c 1 t) (iblk m c 2 t) (iblk m c 3 t) (iblk m c 4 t) (iblk m c 5 t) (iblk m c 6 t) (bcAt (iblk m c 0 t) 0) (bcAt (iblk m c 0 t) 1) := by dsimp only [dats]
theorem after0_8 (c : Dev nD) (t : Fin cfg0.N) : (dats m 0 c).after 8 t = cOut (iblk m c 1 t) (iblk m c 3 t) (iblk m c 4 t) (iblk m c 6 t) := by dsimp only [dats]
theorem after0_9 (c : Dev nD) (t : Fin cfg0.N) : (dats m 0 c).after 9 t = sOut (iblk m c 1 t) (iblk m c 3 t) (iblk m c 4 t) (iblk m c 6 t) := by dsimp only [dats]
theorem after0_10 (c : Dev nD) (t : Fin cfg0.N) : (dats m 0 c).after 10 t = vOut (iblk m c 1 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel`'s statement (Defs.lean) at any `F` — Proof.lean cites it at `Bits`:
   -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-! ## Blockwise: what each point writes back, and the final array block by block -/
-- ==== Proof.KBlock.lean ====
module

public import proofs.«01_k».proof.Proof.Gen.KernelIdeal.Loops
public import Idealize.ShloMosaic.Lib.Pipeline.ValueKit.Tiles

@[expose] public section

noncomputable section

namespace Cert.KernelIdeal.Block

open Idealize.ShloMosaic Idealize.ShloMosaic.TcCoe Cert.KernelIdeal.Gen

variable {F : FTy → Type} [FloatOps F] [Named F]

/-! ## The values of one block -/

/-- Both loops make 45 trips. -/
theorem trips1 : k0_t1_loop.trips = 45 := by rfl
theorem trips2 : k0_t2_loop.trips = 45 := by rfl

/-- The 64 rows of a trip of the first loop, in a (2880, 512) block, -/
abbrev rowsA (t : Fin k0_t1_loop.trips) : Rect S2880x512 := Rect.unit (k0_off1 t) S64x512.size (k0_off1_inb t)
/-- and in the gradient's block; -/
abbrev rowsG (t : Fin k0_t1_loop.trips) : Rect S1x2880x512 := Rect.unit (k0_off2 t) S1x64x512.size (k0_off2_inb t)
/-- those of a trip of the second. -/
abbrev rowsB (t : Fin k0_t2_loop.trips) : Rect S2880x512 := Rect.unit (k0_off3 t) S64x512.size (k0_off3_inb t)

/-- A (2880, 512) block laid out from its 45 tiles of 64 rows. -/
def untile {α : Type} (f : Fin 45 → S64x512.Idx → α) : S2880x512.Idx → α := fun y =>
  f ⟨(y 0).val / 64, Nat.div_lt_of_lt_mul (y 0).isLt⟩ (fun a => match a with
    | ⟨0, _⟩ => ⟨(y 0).val % 64, Nat.mod_lt _ (by norm_num)⟩
    | ⟨1, _⟩ => y 1)

theorem untile_rowsA {α : Type} (f : Fin 45 → S64x512.Idx → α) (t : Fin k0_t1_loop.trips) (x : S64x512.Idx) :
    untile f ((rowsA t).emb x) = f (t.cast trips1) x := by
  unfold untile
  have h0 : (((rowsA t).emb x 0 : Fin _) : ℕ) = 64 * t.val + (x 0).val := by
    show k0_off1 t 0 + 1 * (x 0).val = _
    rw [k0_off1_eq]; simp
  have h1 : (((rowsA t).emb x 1 : Fin _) : ℕ) = (x 1).val := by
    show k0_off1 t 1 + 1 * (x 1).val = _
    rw [k0_off1_eq]; simp
  have hx : (x 0).val < 64 := (x 0).isLt
  have e0 : (⟨(((rowsA t).emb x 0 : Fin _) : ℕ) / 64, Nat.div_lt_of_lt_mul ((rowsA t).emb x 0).isLt⟩ : Fin 45) = t.cast trips1 := by
    apply Fin.ext; simp only [Fin.val_cast]; omega
  rw [e0]; congr 1
  funext a
  match a with
  | ⟨0, _⟩ => apply Fin.ext; show _ % 64 = (x 0).val; omega
  | ⟨1, _⟩ => apply Fin.ext; exact h1

theorem untile_rowsB {α : Type} (f : Fin 45 → S64x512.Idx → α) (t : Fin k0_t2_loop.trips) (x : S64x512.Idx) :
    untile f ((rowsB t).emb x) = f (t.cast trips2) x := by
  unfold untile
  have h0 : (((rowsB t).emb x 0 : Fin _) : ℕ) = 64 * t.val + (x 0).val := by
    show k0_off3 t 0 + 1 * (x 0).val = _
    rw [k0_off3_eq]; simp
  have h1 : (((rowsB t).emb x 1 : Fin _) : ℕ) = (x 1).val := by
    show k0_off3 t 1 + 1 * (x 1).val = _
    rw [k0_off3_eq]; simp
  have hx : (x 0).val < 64 := (x 0).isLt
  have e0 : (⟨(((rowsB t).emb x 0 : Fin _) : ℕ) / 64, Nat.div_lt_of_lt_mul ((rowsB t).emb x 0).isLt⟩ : Fin 45) = t.cast trips2 := by
    apply Fin.ext; simp only [Fin.val_cast]; omega
  rw [e0]; congr 1
  funext a
  match a with
  | ⟨0, _⟩ => apply Fin.ext; show _ % 64 = (x 0).val; omega
  | ⟨1, _⟩ => apply Fin.ext; exact h1

theorem cover_rowsB (y : S2880x512.Idx) : ∃ t : Fin k0_t2_loop.trips, y ∈ (rowsB t).set := by
  have h0 : (y 0).val < 2880 := (y 0).isLt
  have h1 : (y 1).val < 512 := (y 1).isLt
  refine ⟨Fin.cast trips2.symm ⟨(y 0).val / 64, by omega⟩, ?_⟩
  rw [Rect.mem_set_unit]
  intro a
  rw [k0_off3_eq]
  match a with
  | ⟨0, _⟩ => exact ⟨by show 64 * ((y 0).val / 64) ≤ (y 0).val; omega, by show (y 0).val < 64 * ((y 0).val / 64) + 64; omega⟩
  | ⟨1, _⟩ => exact ⟨by show 0 ≤ (y 1).val; omega, by show (y 1).val < 0 + 512; omega⟩

theorem cover_rowsA (y : S2880x512.Idx) : ∃ t : Fin k0_t1_loop.trips, y ∈ (rowsA t).set := by
  have h0 : (y 0).val < 2880 := (y 0).isLt
  have h1 : (y 1).val < 512 := (y 1).isLt
  refine ⟨Fin.cast trips1.symm ⟨(y 0).val / 64, by omega⟩, ?_⟩
  rw [Rect.mem_set_unit]
  intro a
  rw [k0_off1_eq]
  match a with
  | ⟨0, _⟩ => exact ⟨by show 64 * ((y 0).val / 64) ≤ (y 0).val; omega, by show (y 0).val < 64 * ((y 0).val / 64) + 64; omega⟩
  | ⟨1, _⟩ => exact ⟨by show 0 ≤ (y 1).val; omega, by show (y 1).val < 0 + 512; omega⟩

section
variable (x0 : Vec F S2 .f32) (x1 : Vec F S2880x512 .fp8e4m3) (x2 : Vec F S2880x512 .bf16) (x3 : Vec F S1x2880x512 .bf16)
  (x4 x5 x6 : Vec F S1x1x512 .f32)

/-- The new moment's tile `t`. -/
def mTile (t : Fin 45) : FVec F S64x512 .f32 :=
  k0_pay8 x6 x4 (View.ld x1 (rowsA (t.cast trips1.symm))) (View.ld x3 (rowsG (t.cast trips1.symm)))

/-- The new moment of the block. -/
def mAll : Vec F S2880x512 .f32 := untile (mTile x1 x3 x4 x6)

/-- What the first loop carries before trip `n`. -/
def acc : ℕ → FVec F S8x512 .f32 × FVec F S8x512 .f32
  | 0 => (k0_pay5, k0_pay5)
  | n + 1 => if h : n < 45 then
      (k0_pay9 x6 x4 (acc n).1 (View.ld x1 (rowsA (Fin.cast trips1.symm ⟨n, h⟩))) (View.ld x3 (rowsG (Fin.cast trips1.symm ⟨n, h⟩))),
        k0_pay10 (acc n).2 (View.ld x3 (rowsG (Fin.cast trips1.symm ⟨n, h⟩))))
    else acc n

/-- The new second moment of the block, as a row. -/
def vRow : FVec F S1x512 .f32 := k0_pay12 x6 (acc x1 x3 x4 x6 45).2 x5
/-- The block's second moments as the kernel stores them. -/
def vOut : Vec F S1x1x512 .f32 := k0_pay13 x6 (acc x1 x3 x4 x6 45).2 x5
/-- The columns' largest magnitudes. -/
def aRow : FVec F S1x512 .f32 := k0_pay11 (acc x1 x3 x4 x6 45).1
/-- The columns' exponents. -/
def eRow : IVec S1x512 32 := k0_pay17 (k0_pay15 (aRow x1 x3 x4 x6)) (k0_pay16 (aRow x1 x3 x4 x6)) 8#32
/-- The block's scales. -/
def sOut : Vec F S1x1x512 .f32 := k0_pay1 (eRow x1 x3 x4 x6) 127#32
/-- The denominators of the update. -/
def dRow (bc2 : Elt F .f32) : FVec F S1x512 .f32 := k0_pay14 bc2 (vRow x1 x3 x4 x5 x6)
/-- The block's new weights. -/
def wOut (bc1 bc2 : Elt F .f32) : Vec F S2880x512 .bf16 :=
  untile fun t => k0_pay2 bc1 (dRow x1 x3 x4 x5 x6 bc2) (mTile x1 x3 x4 x6 t) (View.ld x2 (rowsB (t.cast trips2.symm)))
/-- The block's codes. -/
def cOut : Vec F S2880x512 .fp8e4m3 := untile fun t => k0_pay3 (eRow x1 x3 x4 x6) (mTile x1 x3 x4 x6 t)
end

/-! ## What the loops leave -/
section

theorem tripR1 (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole) (v2 v10 : Vec F S1x1x512 .f32) (X2 : BufTy.Contents (Elt F) arg2.view.ty) (X4 : BufTy.Contents (Elt F) arg4.view.ty) (k : Fin k0_t1_loop.trips) (a : FVec F S8x512 .f32 × FVec F S8x512 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 v2 v10 X2 X4 k a
      = (k0_pay9 v2 v10 a.1 (arg2.view.readAt (Elt F) (rowsA k).toLoadRect X2) (arg4.view.readAt (Elt F) (rowsG k).toLoadRect X4),
        k0_pay10 a.2 (arg4.view.readAt (Elt F) (rowsG k).toLoadRect X4)) := by
  unfold tripR_k0_t1 trip_k0_t1; dsimp only

theorem tripL1 (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole) (v2 v10 : Vec F S1x1x512 .f32) (X2 : BufTy.Contents (Elt F) arg2.view.ty) (X4 : BufTy.Contents (Elt F) arg4.view.ty) (k : Fin k0_t1_loop.trips) (a : FVec F S8x512 .f32 × FVec F S8x512 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v2 v10 X2 X4 k a
      = [⟨rowsA k, k0_pay8 v2 v10 (arg2.view.readAt (Elt F) (rowsA k).toLoadRect X2) (arg4.view.readAt (Elt F) (rowsG k).toLoadRect X4)⟩] := by
  unfold tripL_k0_t1 trip_k0_t1; dsimp only

theorem tripL2 (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole) (v0 : Elt F .f32) (v36 : FVec F S1x512 .f32) (v119 : IVec S1x512 32) (X3 : BufTy.Contents (Elt F) arg3.view.ty) (X12 : BufTy.Contents (Elt F) arg12.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 v0 v36 v119 X3 X12 k
      = ([⟨rowsB k, k0_pay2 v0 v36 (arg12.view.readAt (Elt F) (rowsB k).toLoadRect X12) (arg3.view.readAt (Elt F) (rowsB k).toLoadRect X3)⟩],
        [⟨rowsB k, k0_pay3 v119 (arg12.view.readAt (Elt F) (rowsB k).toLoadRect X12)⟩]) := by
  unfold tripL_k0_t2 trip_k0_t2; dsimp only

section
variable (𝒱 : Variants) (c : Dev nD) (bd : Option 𝒱.V) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole)
variable (x1 : Vec F S2880x512 .fp8e4m3) (x2 : Vec F S2880x512 .bf16) (x3 : Vec F S1x2880x512 .bf16) (x4 x5 x6 : Vec F S1x1x512 .f32)

/-- The first loop's carried pair before trip `n`. -/
theorem st1_acc (X2 : BufTy.Contents (Elt F) arg2.view.ty) (X4 : BufTy.Contents (Elt F) arg4.view.ty)
    (h2 : arg2.view.read (Elt F) X2 = x1) (h4 : arg4.view.read (Elt F) X4 = x3) (n : ℕ) (hn : n ≤ 45) :
    (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) n).1 = acc x1 x3 x4 x6 n := by
  induction n with
  | zero => rfl
  | succ n ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) (Fin.cast trips1.symm ⟨n, hn⟩)
    rw [show ((Fin.cast trips1.symm ⟨n, hn⟩ : Fin _) : ℕ) = n from rfl] at e
    rw [e, tripR1, ih (by omega), acc, dif_pos (show n < 45 from hn), ← h2, ← h4]
    rfl

/-- The first loop's pieces: each is its rows of the new moment, and the rows of the trips so far are covered. -/
theorem st1_pieces (X2 : BufTy.Contents (Elt F) arg2.view.ty) (X4 : BufTy.Contents (Elt F) arg4.view.ty)
    (h2 : arg2.view.read (Elt F) X2 = x1) (h4 : arg4.view.read (Elt F) X4 = x3) (n : ℕ) (hn : n ≤ 45) :
    (∀ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) n).2,
      ∀ x : p.1.shape.Idx, p.2 x = mAll x1 x3 x4 x6 (p.1.emb x))
    ∧ ∀ (t : Fin k0_t1_loop.trips) (y : S2880x512.Idx), t.val < n → y ∈ (rowsA t).set →
      ∃ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) n).2, y ∈ p.1.set := by
  induction n with
  | zero => exact ⟨fun p hp => absurd hp List.not_mem_nil, fun t y ht => absurd ht (Nat.not_lt_zero _)⟩
  | succ n ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) (Fin.cast trips1.symm ⟨n, hn⟩)
    rw [show ((Fin.cast trips1.symm ⟨n, hn⟩ : Fin _) : ℕ) = n from rfl] at e
    rw [e, tripL1]
    obtain ⟨ih1, ih2⟩ := ih (by omega)
    refine ⟨fun p hp => ?_, fun t y ht hy => ?_⟩
    · rcases List.mem_append.mp hp with hp | hp
      · obtain rfl := List.mem_singleton.mp hp
        intro x
        show _ = untile _ ((rowsA _).emb x)
        rw [untile_rowsA, ← h2, ← h4]; rfl
      · exact ih1 p hp
    · rcases Nat.lt_succ_iff_lt_or_eq.mp ht with h | h
      · obtain ⟨p, hp, hy'⟩ := ih2 t y h hy
        exact ⟨p, List.mem_append_right _ hp, hy'⟩
      · obtain rfl : t = Fin.cast trips1.symm ⟨n, hn⟩ := Fin.ext h
        exact ⟨_, List.mem_append_left _ (List.mem_singleton_self _), hy⟩

/-- So the scratch reads the block's new moment after the first loop, whatever it held before. -/
theorem scratch_read (X2 : BufTy.Contents (Elt F) arg2.view.ty) (X4 : BufTy.Contents (Elt F) arg4.view.ty)
    (h2 : arg2.view.read (Elt F) X2 = x1) (h4 : arg4.view.read (Elt F) X4 = x3) (f : BufTy.Contents (Elt F) arg12.view.ty) :
    arg12.view.read (Elt F) (arg12.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) k0_t1_loop.trips).2)
      = mAll x1 x3 x4 x6 := by
  obtain ⟨p1, p2⟩ := st1_pieces 𝒱 c bd i arg1 harg1 arg2 harg2 arg3 harg3 arg4 harg4 arg5 harg5 arg6 harg6 arg7 harg7 arg8 harg8 arg9 harg9 arg10 harg10 arg11 harg11 arg12 harg12 x1 x3 x4 x6 X2 X4 h2 h4 45 le_rfl
  rw [trips1]
  have hc : ∀ y, ∃ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 x6 x4 X2 X4 (k0_pay5, k0_pay5) 45).2, y ∈ p.1.set := fun y => by
    obtain ⟨t, ht⟩ := cover_rowsA y
    exact p2 t y (t.isLt.trans_eq trips1) ht
  rw [View.read_writes_eq_canon _ _ _ hc]
  funext y
  exact View.canon_apply_of_pieces _ _ p1 y (hc y)

/-- The second loop's pieces: each is its rows of the new weights and of the codes, and the rows of the trips so far are
    covered. -/
theorem pb2_pieces (v0 bc2 : Elt F .f32) (X3 : BufTy.Contents (Elt F) arg3.view.ty) (X12 : BufTy.Contents (Elt F) arg12.view.ty)
    (h3 : arg3.view.read (Elt F) X3 = x2) (h12 : arg12.view.read (Elt F) X12 = mAll x1 x3 x4 x6) (n : ℕ) (hn : n ≤ 45) :
    ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).1,
      ∀ x : p.1.shape.Idx, p.2 x = wOut x1 x2 x3 x4 x5 x6 v0 bc2 (p.1.emb x))
    ∧ ∀ (t : Fin k0_t2_loop.trips) (y : S2880x512.Idx), t.val < n → y ∈ (rowsB t).set →
      ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).1, y ∈ p.1.set)
    ∧ ((∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).2,
      ∀ x : p.1.shape.Idx, p.2 x = cOut x1 x3 x4 x6 (p.1.emb x))
    ∧ ∀ (t : Fin k0_t2_loop.trips) (y : S2880x512.Idx), t.val < n → y ∈ (rowsB t).set →
      ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 n).2, y ∈ p.1.set) := by
  induction n with
  | zero => exact ⟨⟨fun p hp => absurd hp List.not_mem_nil, fun t y ht => absurd ht (Nat.not_lt_zero _)⟩,
      ⟨fun p hp => absurd hp List.not_mem_nil, fun t y ht => absurd ht (Nat.not_lt_zero _)⟩⟩
  | succ n ih =>
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 (Fin.cast trips2.symm ⟨n, hn⟩)
    rw [show ((Fin.cast trips2.symm ⟨n, hn⟩ : Fin _) : ℕ) = n from rfl, tripL2] at e
    rw [e]
    obtain ⟨⟨ih1, ih2⟩, ih3, ih4⟩ := ih (by omega)
    have hm : arg12.view.readAt (Elt F) (rowsB (Fin.cast trips2.symm ⟨n, hn⟩)).toLoadRect X12 = mTile x1 x3 x4 x6 ⟨n, hn⟩ := by
      funext x
      show arg12.view.read (Elt F) X12 ((rowsB _).emb x) = _
      rw [h12]; exact untile_rowsB _ _ x
    rw [hm]
    refine ⟨⟨fun p hp => ?_, fun t y ht hy => ?_⟩, fun p hp => ?_, fun t y ht hy => ?_⟩
    · rcases List.mem_append.mp hp with hp | hp
      · obtain rfl := List.mem_singleton.mp hp
        intro x
        show _ = untile _ ((rowsB _).emb x)
        rw [untile_rowsB, ← h3]; rfl
      · exact ih1 p hp
    · rcases Nat.lt_succ_iff_lt_or_eq.mp ht with h | h
      · obtain ⟨p, hp, hy'⟩ := ih2 t y h hy
        exact ⟨p, List.mem_append_right _ hp, hy'⟩
      · obtain rfl : t = Fin.cast trips2.symm ⟨n, hn⟩ := Fin.ext h
        exact ⟨_, List.mem_append_left _ (List.mem_singleton_self _), hy⟩
    · rcases List.mem_append.mp hp with hp | hp
      · obtain rfl := List.mem_singleton.mp hp
        intro x
        show _ = untile _ ((rowsB _).emb x)
        rw [untile_rowsB]; rfl
      · exact ih3 p hp
    · rcases Nat.lt_succ_iff_lt_or_eq.mp ht with h | h
      · obtain ⟨p, hp, hy'⟩ := ih4 t y h hy
        exact ⟨p, List.mem_append_right _ hp, hy'⟩
      · obtain rfl : t = Fin.cast trips2.symm ⟨n, hn⟩ := Fin.ext h
        exact ⟨_, List.mem_append_left _ (List.mem_singleton_self _), hy⟩

/-- So the weights' buffer reads the block's new weights after the second loop, -/
theorem w_read (v0 bc2 : Elt F .f32) (X3 : BufTy.Contents (Elt F) arg3.view.ty) (X12 : BufTy.Contents (Elt F) arg12.view.ty)
    (h3 : arg3.view.read (Elt F) X3 = x2) (h12 : arg12.view.read (Elt F) X12 = mAll x1 x3 x4 x6) (f : BufTy.Contents (Elt F) arg8.view.ty) :
    arg8.view.read (Elt F) (arg8.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 k0_t2_loop.trips).1)
      = wOut x1 x2 x3 x4 x5 x6 v0 bc2 := by
  obtain ⟨⟨p1, p2⟩, -⟩ := pb2_pieces 𝒱 c bd i arg1 harg1 arg2 harg2 arg3 harg3 arg4 harg4 arg5 harg5 arg6 harg6 arg7 harg7 arg8 harg8 arg9 harg9 arg10 harg10 arg11 harg11 arg12 harg12 x1 x2 x3 x4 x5 x6 v0 bc2 X3 X12 h3 h12 45 le_rfl
  rw [trips2]
  have hc := fun y => (cover_rowsB y).elim fun t ht => p2 t y (t.isLt.trans_eq trips2) ht
  rw [View.read_writes_eq_canon _ _ _ hc]
  funext y
  exact View.canon_apply_of_pieces _ _ p1 y (hc y)

/-- and the codes' buffer the block's codes. -/
theorem c_read (v0 bc2 : Elt F .f32) (X3 : BufTy.Contents (Elt F) arg3.view.ty) (X12 : BufTy.Contents (Elt F) arg12.view.ty)
    (h3 : arg3.view.read (Elt F) X3 = x2) (h12 : arg12.view.read (Elt F) X12 = mAll x1 x3 x4 x6) (f : BufTy.Contents (Elt F) arg9.view.ty) :
    arg9.view.read (Elt F) (arg9.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 v0 (dRow x1 x3 x4 x5 x6 bc2) (eRow x1 x3 x4 x6) X3 X12 k0_t2_loop.trips).2)
      = cOut x1 x3 x4 x6 := by
  obtain ⟨-, p1, p2⟩ := pb2_pieces 𝒱 c bd i arg1 harg1 arg2 harg2 arg3 harg3 arg4 harg4 arg5 harg5 arg6 harg6 arg7 harg7 arg8 harg8 arg9 harg9 arg10 harg10 arg11 harg11 arg12 harg12 x1 x2 x3 x4 x5 x6 v0 bc2 X3 X12 h3 h12 45 le_rfl
  rw [trips2]
  have hc := fun y => (cover_rowsB y).elim fun t ht => p2 t y (t.isLt.trans_eq trips2) ht
  rw [View.read_writes_eq_canon _ _ _ hc]
  funext y
  exact View.canon_apply_of_pieces _ _ p1 y (hc y)
end

end

end Cert.KernelIdeal.Block

end
-- ==== Proof.KRun.lean ====
module

public import proofs.«01_k».proof.Proof.KBlock
public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Block

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One of the two bias corrections of the table. -/
def bcAt (x0 : Vec F S2 .f32) (k : Fin 2) : Elt F .f32 := x0 (fun a => match a with | ⟨0, _⟩ => k)

/-- A load of one word of the table reads it. -/
theorem read_bc (arg : Memref sig .tc .smem S2 .f32) (f : BufTy.Contents (Elt F) arg.view.ty) (x : Vec F S2 .f32)
    (h : arg.view.read (Elt F) f = x) (k : Fin 2) (inb : ∀ a, (![k.val] : Fin 1 → ℕ) a + (![1] : Fin 1 → ℕ) a ≤ S2.size a) (hp) :
    arg.view.readAt (Elt F) (Rect.unit (s := S2) ![k.val] ![1] inb).toLoadRect f (Shape.Idx.first hp) = bcAt x k := by
  rw [View.readAt_eq_ld, h]
  show x _ = x _
  congr 1
  funext a
  match a with
  | ⟨0, _⟩ => apply Fin.ext; show k.val + 1 * 0 = k.val; omega

/-- One store of a whole (1, 1, 512) buffer leaves its payload. -/
theorem store_whole (arg : Memref sig .tc .vmem S1x1x512 .f32) (f : BufTy.Contents (Elt F) arg.view.ty) (w : Vec F S1x1x512 .f32) :
    arg.view.read (Elt F) (arg.view.writes (Elt F) f
      [⟨Rect.unit (s := S1x1x512) ![0, 0, 0] S1x1x512.size inb_S1x1x512_S1x1x512_0_0_0, w⟩]) = w := by
  have h0 : (![0, 0, 0] : Fin 3 → ℕ) = fun _ => 0 := by funext a; fin_cases a <;> rfl
  have hm : ∀ y, y ∈ (Rect.unit (s := S1x1x512) ![0, 0, 0] S1x1x512.size inb_S1x1x512_S1x1x512_0_0_0).set :=
    View.mem_set_unit_zero (S := S1x1x512) h0 _
  have hc : ∀ y : S1x1x512.Idx, ∃ pc ∈ [(⟨Rect.unit (s := S1x1x512) ![0, 0, 0] S1x1x512.size inb_S1x1x512_S1x1x512_0_0_0, w⟩ : View.Piece (Elt F) S1x1x512 .f32)],
      y ∈ pc.1.set := fun y => ⟨_, List.mem_singleton_self _, hm y⟩
  rw [View.read_writes_eq_canon _ _ _ hc]
  exact View.canon_unit_zero (S := S1x1x512) h0 _ _

/-- A load of a whole (1, 1, 512) buffer reads its contents. -/
theorem read_whole (arg : Memref sig .tc .vmem S1x1x512 .f32) (f : BufTy.Contents (Elt F) arg.view.ty) (x : Vec F S1x1x512 .f32)
    (h : arg.view.read (Elt F) f = x) :
    arg.view.readAt (Elt F) (Rect.unit (s := S1x1x512) ![0, 0, 0] S1x1x512.size inb_S1x1x512_S1x1x512_0_0_0).toLoadRect f = x := by
  rw [View.readAt_eq_ld, h]
  exact View.ld_unit_zero (by funext a; fin_cases a <;> rfl) _ _

set_option maxHeartbeats 1000000 in
/-- The body's triple, on whole staging memrefs: the inputs' at their contents, the outputs' and the scratch at anything;
    it ends with the inputs as they were and each output at the block's value. -/
theorem body_triple (c : Dev nD) (i : grid0.Coords) (arg1 : Memref sig .tc .smem S2 .f32) (harg1 : arg1.IsWhole) (arg2 : Memref sig .tc .vmem S2880x512 .fp8e4m3) (harg2 : arg2.IsWhole) (arg3 : Memref sig .tc .vmem S2880x512 .bf16) (harg3 : arg3.IsWhole) (arg4 : Memref sig .tc .vmem S1x2880x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2880x512 .bf16) (harg8 : arg8.IsWhole) (arg9 : Memref sig .tc .vmem S2880x512 .fp8e4m3) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S2880x512 .f32) (harg12 : arg12.IsWhole)
    (x0 : Vec F S2 .f32) (x1 : Vec F S2880x512 .fp8e4m3) (x2 : Vec F S2880x512 .bf16) (x3 : Vec F S1x2880x512 .bf16) (x4 : Vec F S1x1x512 .f32) (x5 : Vec F S1x1x512 .f32) (x6 : Vec F S1x1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (wOut x1 x2 x3 x4 x5 x6 (bcAt x0 0) (bcAt x0 1)) ∗ owns (c : Thread nD τ) arg9 fullShare (cOut x1 x3 x4 x6) ∗ owns (c : Thread nD τ) arg10 fullShare (sOut x1 x3 x4 x6) ∗ owns (c : Thread nD τ) arg11 fullShare (vOut x1 x3 x4 x5 x6) ∗ (∃ d, owns (c : Thread nD τ) arg12 fullShare d)) -∗ K ⟨⟩))
      ⊢ wp frame (wpE (defs₀ (F := F)) Variants.none c none) E (cc0_adam_update i arg1 harg1 arg2 harg2 arg3 harg3 arg4 harg4 arg5 harg5 arg6 harg6 arg7 harg7 arg8 harg8 arg9 harg9 arg10 harg10 arg11 harg11 arg12 harg12) K := by
  simp only [cc0_adam_update_eq_skeleton]; unfold cc0_adam_update_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
  have e7 := read_whole arg7 f6 x6 hf6
  have e5 := read_whole arg5 f4 x4 hf4
  have e6 := read_whole arg6 f5 x5 hf5
  have hacc := st1_acc Variants.none c none i arg1 harg1 arg2 harg2 arg3 harg3 arg4 harg4 arg5 harg5 arg6 harg6 arg7 harg7 arg8 harg8 arg9 harg9 arg10 harg10 arg11 harg11 arg12 harg12 x1 x3 x4 x6 f1 f3 hf1 hf3 45 le_rfl
  have hN1 : Scf.trips k0_t1_loop.lb k0_t1_loop.ub k0_t1_loop.st = 45 := rfl
  have hN2 : Scf.trips k0_t2_loop.lb k0_t2_loop.ub k0_t2_loop.st = 45 := rfl
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    simp only [e7, e5, e6, hN1, hN2]
    simp only [hacc]
    have hb0 := read_bc arg1 f0 x0 hf0 0 inb_S2_S1_0
    have hb1 := read_bc arg1 f0 x0 hf0 1 inb_S2_S1_1
    simp only [Fin.val_zero, Fin.val_one] at hb0 hb1
    simp only [hb0, hb1]
    exact w_read Variants.none c none i arg1 harg1 arg2 harg2 arg3 harg3 arg4 harg4 arg5 harg5 arg6 harg6 arg7 harg7 arg8 harg8 arg9 harg9 arg10 harg10 arg11 harg11 arg12 harg12 x1 x2 x3 x4 x5 x6 _ _ f2 _ hf2 (scratch_read Variants.none c none i arg1 harg1 arg2 harg2 arg3 harg3 arg4 harg4 arg5 harg5 arg6 harg6 arg7 harg7 arg8 harg8 arg9 harg9 arg10 harg10 arg11 harg11 arg12 harg12 x1 x3 x4 x6 f1 f3 hf1 hf3 fs0) f7
  isplitl [H8]
  · iexists _; isplitr
    swap; · iexact H8
    ipureintro
    sl_unfold_words
    simp only [e7, e5, e6, hN1, hN2]
    simp only [hacc]
    exact c_read Variants.none c none i arg1 harg1 arg2 harg2 arg3 harg3 arg4 harg4 arg5 harg5 arg6 harg6 arg7 harg7 arg8 harg8 arg9 harg9 arg10 harg10 arg11 harg11 arg12 harg12 x1 x2 x3 x4 x5 x6 _ _ f2 _ hf2 (scratch_read Variants.none c none i arg1 harg1 arg2 harg2 arg3 harg3 arg4 harg4 arg5 harg5 arg6 harg6 arg7 harg7 arg8 harg8 arg9 harg9 arg10 harg10 arg11 harg11 arg12 harg12 x1 x3 x4 x6 f1 f3 hf1 hf3 fs0) f8
  isplitl [H9]
  · iexists _; isplitr
    swap; · iexact H9
    ipureintro
    sl_unfold_words
    simp only [e7, e5, e6, hN1, hN2]
    simp only [hacc]
    exact store_whole arg10 _ _
  isplitl [H10]
  · iexists _; isplitr
    swap; · iexact H10
    ipureintro
    sl_unfold_words
    simp only [e7, e5, e6, hN1, hN2]
    simp only [hacc]
    exact store_whole arg11 _ _
  iexists _, _; isplitr; swap; · iexact HS0
  ipureintro; rfl

/-! ## The pipeline's proof data -/

/-- The proof data of the one pipeline on core `c`: the arrays as the region finds them (`V`); after the body at
    point `t` each input's buffer at its block and the outputs' at the block's values (Block); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wOut (iblk m c 1 t) (iblk m c 2 t) (iblk m c 3 t) (iblk m c 4 t) (iblk m c 5 t) (iblk m c 6 t) (bcAt (iblk m c 0 t) 0) (bcAt (iblk m c 0 t) 1)
    | ⟨8, _⟩ => cOut (iblk m c 1 t) (iblk m c 3 t) (iblk m c 4 t) (iblk m c 6 t)
    | ⟨9, _⟩ => sOut (iblk m c 1 t) (iblk m c 3 t) (iblk m c 4 t) (iblk m c 6 t)
    | ⟨10, _⟩ => vOut (iblk m c 1 t) (iblk m c 3 t) (iblk m c 4 t) (iblk m c 5 t) (iblk m c 6 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = wOut (iblk m c 1 t) (iblk m c 2 t) (iblk m c 3 t) (iblk m c 4 t) (iblk m c 5 t) (iblk m c 6 t) (bcAt (iblk m c 0 t) 0) (bcAt (iblk m c 0 t) 1) := by dsimp only [dats]
theorem after0_8 (c : Dev nD) (t : Fin cfg0.N) : (dats m 0 c).after 8 t = cOut (iblk m c 1 t) (iblk m c 3 t) (iblk m c 4 t) (iblk m c 6 t) := by dsimp only [dats]
theorem after0_9 (c : Dev nD) (t : Fin cfg0.N) : (dats m 0 c).after 9 t = sOut (iblk m c 1 t) (iblk m c 3 t) (iblk m c 4 t) (iblk m c 6 t) := by dsimp only [dats]
theorem after0_10 (c : Dev nD) (t : Fin cfg0.N) : (dats m 0 c).after 10 t = vOut (iblk m c 1 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
   -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 7's array: the run's contents for that window after the body, read through the window's block. -/
theorem flushed7 (c : Dev nD) (t : Fin cfg0.N) :
    (dats m 0 c).flushed 7 t = (cfg0.win 7).cut (grid0.coords t) (wOut (iblk m c 1 t) (iblk m c 2 t) (iblk m c 3 t) (iblk m c 4 t) (iblk m c 5 t) (iblk m c 6 t) (bcAt (iblk m c 0 t) 0) (bcAt (iblk m c 0 t) 1)) := by
  show (cfg0.win 7).cut (grid0.coords t) ((dats m 0 c).after 7 t) = _
  rw [after0_7]

/-- The index map sends distinct grid points to distinct block indices (decided over the 48 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2880x24576.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body, read through the window's block. -/
theorem flushed8 (c : Dev nD) (t : Fin cfg0.N) :
    (dats m 0 c).flushed 8 t = (cfg0.win 8).cut (grid0.coords t) (cOut (iblk m c 1 t) (iblk m c 3 t) (iblk m c 4 t) (iblk m c 6 t)) := by
  show (cfg0.win 8).cut (grid0.coords t) ((dats m 0 c).after 8 t) = _
  rw [after0_8]

/-- The index map sends distinct grid points to distinct block indices (decided over the 48 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2880x24576.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body, read through the window's block. -/
theorem flushed9 (c : Dev nD) (t : Fin cfg0.N) :
    (dats m 0 c).flushed 9 t = (cfg0.win 9).cut (grid0.coords t) (sOut (iblk m c 1 t) (iblk m c 3 t) (iblk m c 4 t) (iblk m c 6 t)) := by
  show (cfg0.win 9).cut (grid0.coords t) ((dats m 0 c).after 9 t) = _
  rw [after0_9]

/-- The index map sends distinct grid points to distinct block indices (decided over the 48 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S48x1x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body, read through the window's block. -/
theorem flushed10 (c : Dev nD) (t : Fin cfg0.N) :
    (dats m 0 c).flushed 10 t = (cfg0.win 10).cut (grid0.coords t) (vOut (iblk m c 1 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 48 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S48x1x512.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v40_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v40_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v40_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v40_3) = (dats m 0 c).arrAt 10 cfg0.N :=
  (h c).1 10

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v40_0) = (dats m 0 c).arrAt 7 cfg0.N
      ∧ r.2.mem ((c : Thread nD τ).loc main_v40_1) = (dats m 0 c).arrAt 8 cfg0.N
      ∧ r.2.mem ((c : Thread nD τ).loc main_v40_2) = (dats m 0 c).arrAt 9 cfg0.N
      ∧ r.2.mem ((c : Thread nD τ).loc main_v40_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Run

end
-- ==== Proof.Exponent.lean ====
module

public import Idealize.ShloMosaic.Lib.Claim
public import Idealize.ShloMosaic.Lib.Pointwise

@[expose] public section

noncomputable section

namespace Cert.Adam

open Idealize.ShloMosaic

/-! ## Powers of two from their exponent fields -/

/-- The float whose exponent field is `n` and whose other bits are zero. -/
def pw (n : ℕ) : EReal := Ideal.ofBits .f32 (IntOp.shli ArithUnit.vector (BitVec.ofNat 32 n) 23#32)

theorem fields : ∀ n : Fin 256, (IntOp.shli ArithUnit.vector (BitVec.ofNat 32 n.val) 23#32).extractLsb' 23 8 = BitVec.ofNat 8 n.val
    ∧ (IntOp.shli ArithUnit.vector (BitVec.ofNat 32 n.val) 23#32).extractLsb' 0 23 = 0#23
    ∧ (IntOp.shli ArithUnit.vector (BitVec.ofNat 32 n.val) 23#32).extractLsb' 31 1 = 0#1 := by decide +kernel

theorem pw_zero : pw 0 = 0 := by
  show Ideal.ofBits .f32 (0#32) = 0
  exact Ideal.ofBits_zero_f32

/-- A field strictly between 0 and 255 is the power of two of the field less 127. -/
theorem pw_mid (n : ℕ) (h1 : 1 ≤ n) (h2 : n ≤ 254) : pw n = (((2 : ℝ) ^ ((n : ℤ) - 127) : ℝ) : EReal) := by
  obtain ⟨f1, f2, f3⟩ := fields ⟨n, by omega⟩
  unfold pw Ideal.ofBits Ideal.ieee
  simp only at f1 f2 f3
  simp only [f1, f2, f3, show (8 + 23 : ℕ) = 31 from rfl]
  have hn : (BitVec.ofNat 8 n).toNat = n := by simp [BitVec.toNat_ofNat]; omega
  rw [hn, if_neg (by norm_num; omega), if_neg (by omega)]
  congr 1
  have h : ((n : ℤ) - (2 ^ (8 - 1) - 1) - ((23 : ℕ) : ℤ)) = ((n : ℤ) - 127) - 23 := by norm_num
  rw [h, zpow_sub₀ (by norm_num : (2 : ℝ) ≠ 0)]
  norm_num
  ring

/-- The field 255 is infinity. -/
theorem pw_top : pw 255 = ⊤ := by
  obtain ⟨f1, f2, f3⟩ := fields ⟨255, by omega⟩
  unfold pw Ideal.ofBits Ideal.ieee
  simp only at f1 f2 f3
  simp only [f1, f2, f3, show (8 + 23 : ℕ) = 31 from rfl]
  norm_num

/-! ## The search for an exponent -/

/-- One step of the kernel's search: the bit is kept when the power of two it gives is at most `x`. -/
def bitStep (x : EReal) (f b : BitVec 32) : BitVec 32 :=
  Scalar.select (FloatOps.cmpf (F := Ideal) (φ := .f32) CmpFPredicate.oge x
    (Ideal.ofBits FTy.f32 (IntOp.shli ArithUnit.vector (IntOp.addi f b) 23#32))) (IntOp.addi f b) f

/-- The field the eight steps find. -/
def field (x : EReal) : BitVec 32 :=
  bitStep x (bitStep x (bitStep x (bitStep x (bitStep x (bitStep x (bitStep x (bitStep x 0#32 128#32) 64#32) 32#32) 16#32) 8#32) 4#32) 2#32) 1#32

/-- The exponent the kernel finds for `x`. -/
def expo (x : EReal) : BitVec 32 :=
  Scalar.select (FloatOps.cmpf (F := Ideal) (φ := .f32) CmpFPredicate.oeq x (Ideal.ofBits FTy.f32 0x00000000#32)) 0#32
    (IntOp.subi (IntOp.minsi (field x) 252#32) 126#32)

/-- What a step keeps: `f` is a field of at most `x`, unless it is zero, and the field `f + s` is above `x`, unless it is 256. -/
def Inv (x : EReal) (f : BitVec 32) (n s : ℕ) : Prop :=
  f = BitVec.ofNat 32 n ∧ n + s ≤ 256 ∧ (n = 0 ∨ pw n ≤ x) ∧ (n + s = 256 ∨ x < pw (n + s))

theorem step_inv {x : EReal} {f : BitVec 32} {n b : ℕ} (h : Inv x f n (2 * b)) :
    ∃ n', Inv x (bitStep x f (BitVec.ofNat 32 b)) n' b := by
  obtain ⟨rfl, h0, h1, h2⟩ := h
  unfold bitStep IntOp.addi
  rw [← BitVec.ofNat_add]
  by_cases hx : pw (n + b) ≤ x
  · refine ⟨n + b, ?_, by omega, .inr hx, by rw [show n + b + b = n + 2 * b by omega]; exact h2⟩
    have : FloatOps.cmpf (F := Ideal) (φ := .f32) CmpFPredicate.oge x
      (Ideal.ofBits FTy.f32 (IntOp.shli ArithUnit.vector (BitVec.ofNat 32 (n + b)) 23#32)) = 1#1 := by
      show Ideal.cmp _ _ _ = _
      unfold Ideal.cmp; exact congrArg BitVec.ofBool (decide_eq_true hx)
    rw [this]; rfl
  · refine ⟨n, ?_, by omega, h1, .inr (not_le.mp hx)⟩
    have : FloatOps.cmpf (F := Ideal) (φ := .f32) CmpFPredicate.oge x
      (Ideal.ofBits FTy.f32 (IntOp.shli ArithUnit.vector (BitVec.ofNat 32 (n + b)) 23#32)) = 0#1 := by
      show Ideal.cmp _ _ _ = _
      unfold Ideal.cmp; exact congrArg BitVec.ofBool (decide_eq_false hx)
    rw [this]; rfl

/-- The field the search finds: the greatest one whose power of two is at most `x` (zero if there is none). -/
theorem field_spec (x : EReal) : ∃ n, field x = BitVec.ofNat 32 n ∧ n ≤ 255 ∧ (n = 0 ∨ pw n ≤ x) ∧ (n = 255 ∨ x < pw (n + 1)) := by
  have h0 : Inv x 0#32 0 (2 * 128) := ⟨rfl, by norm_num, .inl rfl, .inl rfl⟩
  obtain ⟨n1, h1⟩ := step_inv h0
  obtain ⟨n2, h2⟩ := step_inv (b := 64) h1
  obtain ⟨n3, h3⟩ := step_inv (b := 32) h2
  obtain ⟨n4, h4⟩ := step_inv (b := 16) h3
  obtain ⟨n5, h5⟩ := step_inv (b := 8) h4
  obtain ⟨n6, h6⟩ := step_inv (b := 4) h5
  obtain ⟨n7, h7⟩ := step_inv (b := 2) h6
  obtain ⟨n8, h8, h9, h10, h11⟩ := step_inv (b := 1) h7
  exact ⟨n8, h8, by omega, h10, h11.imp_left fun h => by omega⟩

/-- The exponent the reference computes from the logarithm, brought into the range of the normal numbers. -/
def logExp (x : EReal) : EReal :=
  min (Ideal.ofBits .f32 0x42FC0000#32) (max (Ideal.ofBits .f32 0xC2FC0000#32)
    (Ideal.liftRound Int.floor (Ideal.div (Ideal.log x) (Ideal.log (Ideal.ofBits .f32 0x40000000#32))) + Ideal.ofBits .f32 0x3F800000#32))

theorem c126 : Ideal.ofBits .f32 0x42FC0000#32 = ((126 : ℝ) : EReal) := by
  simp [Ideal.ofBits, Ideal.ieee]; rw [← EReal.coe_mul]; norm_num
theorem cn126 : Ideal.ofBits .f32 0xC2FC0000#32 = ((-126 : ℝ) : EReal) := by
  simp [Ideal.ofBits, Ideal.ieee]; rw [← EReal.coe_mul]; norm_num
theorem c2 : Ideal.ofBits .f32 0x40000000#32 = ((2 : ℝ) : EReal) := by
  simp [Ideal.ofBits, Ideal.ieee]; rw [← EReal.coe_mul]; norm_num

theorem min_252 : ∀ f : Fin 256, IntOp.minsi (BitVec.ofNat 32 f.val) 252#32 = BitVec.ofNat 32 (min f.val 252) := by decide +kernel

/-- The logarithm's exponent of a positive real, in terms of the integer part of its logarithm to the base two. -/
theorem logExp_real (r : ℝ) (hr : 0 < r) : logExp (r : EReal) = (((min 126 (max (-126) (⌊Real.log r / Real.log 2⌋ + 1)) : ℤ) : ℝ) : EReal) := by
  have e1 : Ideal.log (r : EReal) = ((Real.log r : ℝ) : EReal) := by
    show (if r ≤ 0 then _ else _) = _
    rw [if_neg (not_le.mpr hr)]
  have e2 : Ideal.log ((2 : ℝ) : EReal) = ((Real.log 2 : ℝ) : EReal) := by
    show (if (2 : ℝ) ≤ 0 then _ else _) = _
    rw [if_neg (by norm_num)]
  have h2 : (Real.log 2) ≠ 0 := (Real.log_pos (by norm_num)).ne'
  have e3 : Ideal.div ((Real.log r : ℝ) : EReal) ((Real.log 2 : ℝ) : EReal) = ((Real.log r / Real.log 2 : ℝ) : EReal) := by
    unfold Ideal.div
    rw [if_neg (by exact_mod_cast h2), ← EReal.coe_inv, ← EReal.coe_mul]
    rfl
  unfold logExp
  rw [c126, cn126, c2, e1, e2, e3, Ideal.ofBits_one_f32]
  show min _ (max _ (((⌊Real.log r / Real.log 2⌋ : ℝ) : EReal) + ((1 : ℝ) : EReal))) = _
  rw [← EReal.coe_add, ← EReal.coe_strictMono.monotone.map_max, ← EReal.coe_strictMono.monotone.map_min]
  push_cast
  rfl

/-- The two exponents of a positive `x` are the same integer, between −126 and 126. -/
theorem expo_eq (x : EReal) (hx : 0 < x) : ∃ n : ℕ, n ≤ 252 ∧ expo x = BitVec.ofNat 32 n - 126#32
    ∧ logExp x = (((n : ℝ) - 126 : ℝ) : EReal) := by
  obtain ⟨f, hf, hf255, h1, h2⟩ := field_spec x
  refine ⟨min f 252, min_le_right _ _, ?_, ?_⟩
  · unfold expo IntOp.subi
    have : FloatOps.cmpf (F := Ideal) (φ := .f32) CmpFPredicate.oeq x (Ideal.ofBits FTy.f32 0x00000000#32) = 0#1 := by
      show Ideal.cmp _ _ _ = _
      unfold Ideal.cmp
      rw [Ideal.ofBits_zero_f32]; exact congrArg BitVec.ofBool (decide_eq_false hx.ne')
    rw [this, hf, min_252 ⟨f, by omega⟩]; rfl
  · induction x with
    | bot => exact absurd hx (by simp)
    | top =>
      have : f = 255 := h2.resolve_right fun h => absurd h (by simp)
      subst this
      have e2 : Ideal.log ((2 : ℝ) : EReal) = ((Real.log 2 : ℝ) : EReal) := by
        show (if (2 : ℝ) ≤ 0 then _ else _) = _
        rw [if_neg (by norm_num)]
      have h2 : 0 < Real.log 2 := Real.log_pos (by norm_num)
      unfold logExp Ideal.div
      rw [c126, cn126, c2, e2, if_neg (by exact_mod_cast h2.ne'), show Ideal.log ⊤ = ⊤ from rfl, ← EReal.coe_inv,
        EReal.top_mul_coe_of_pos (inv_pos.mpr h2), Ideal.ofBits_one_f32]
      show min _ (max _ ((⊤ : EReal) + ((1 : ℝ) : EReal))) = _
      rw [EReal.top_add_coe, max_eq_right le_top, min_eq_left le_top]
      norm_num
    | coe r =>
      have hr : 0 < r := by exact_mod_cast hx
      rw [logExp_real r hr]
      have hl2 : 0 < Real.log 2 := Real.log_pos (by norm_num)
      have hne : f ≠ 255 := by
        rintro rfl
        rcases h1 with h | h
        · omega
        · rw [pw_top] at h; exact absurd h (by simp)
      have l1 : 1 ≤ f → (f : ℤ) - 127 ≤ ⌊Real.log r / Real.log 2⌋ := fun h => by
        rcases h1 with h' | h'
        · omega
        · rw [pw_mid f h (by omega), EReal.coe_le_coe_iff] at h'
          rw [Int.le_floor, le_div_iff₀ hl2, ← Real.log_zpow]
          exact Real.log_le_log (by positivity) h'
      have l2 : f ≤ 253 → ⌊Real.log r / Real.log 2⌋ < (f : ℤ) - 126 := fun h => by
        rcases h2 with h' | h'
        · omega
        · rw [pw_mid (f + 1) (by omega) (by omega), EReal.coe_lt_coe_iff] at h'
          rw [Int.floor_lt, div_lt_iff₀ hl2, ← Real.log_zpow]
          rw [show ((f + 1 : ℕ) : ℤ) - 127 = (f : ℤ) - 126 by push_cast; ring] at h'
          exact Real.log_lt_log hr h'
      have key : min 126 (max (-126) (⌊Real.log r / Real.log 2⌋ + 1)) = ((min f 252 : ℕ) : ℤ) - 126 := by
        generalize ⌊Real.log r / Real.log 2⌋ = l at l1 l2
        by_cases c1 : 1 ≤ f <;> by_cases c2 : f ≤ 253 <;> simp only [c1, c2, true_implies, false_implies] at l1 l2 <;> omega
      rw [key]
      push_cast
      rfl

/-! ## The scale and its inverse -/

theorem sub_fields : ∀ n : Fin 253, IntOp.addi (BitVec.ofNat 32 n.val - 126#32) 127#32 = BitVec.ofNat 32 (n.val + 1)
    ∧ IntOp.subi 127#32 (BitVec.ofNat 32 n.val - 126#32) = BitVec.ofNat 32 (253 - n.val) := by decide +kernel

/-- The scale the kernel builds from the exponent `e`, -/
def scaleOf (e : BitVec 32) : EReal := Ideal.ofBits .f32 (IntOp.shli ArithUnit.vector (IntOp.addi e 127#32) 23#32)
/-- and its inverse. -/
def invOf (e : BitVec 32) : EReal := Ideal.ofBits .f32 (IntOp.shli ArithUnit.vector (IntOp.subi 127#32 e) 23#32)

theorem exp2_int (z : ℤ) : Ideal.exp2 (((z : ℝ) : ℝ) : EReal) = (((2 : ℝ) ^ z : ℝ) : EReal) := by
  show ((Real.rpow 2 (z : ℝ) : ℝ) : EReal) = _
  congr 1
  exact Real.rpow_intCast 2 z

/-- For a magnitude `a` and `x = a·c`, `c` positive, the kernel's scale is the reference's `2^e`, and its inverse is `2^(−e)`. -/
theorem scale_eq (a : EReal) (ha : 0 ≤ a) (C : ℝ) (hC : 0 < C) :
    let e := Scalar.select (FloatOps.cmpf (F := Ideal) (φ := .f32) CmpFPredicate.oeq a (Ideal.ofBits FTy.f32 0x00000000#32))
      (Ideal.ofBits FTy.f32 0x00000000#32) (logExp (a * (C : EReal)))
    scaleOf (expo (a * (C : EReal))) = Ideal.exp2 e ∧ invOf (expo (a * (C : EReal))) = Ideal.exp2 (Ideal.ofBits FTy.f32 0x00000000#32 - e) := by
  intro e
  rcases ha.eq_or_lt with rfl | ha
  · have he : e = 0 := by
      show Scalar.select (Ideal.cmp _ _ _) _ _ = _
      unfold Ideal.cmp
      rw [Ideal.ofBits_zero_f32, show BitVec.ofBool (decide ((0 : EReal) = 0)) = 1#1 by simp]; rfl
    have hx : expo (0 * (C : EReal)) = 0#32 := by
      rw [zero_mul]; unfold expo
      show Scalar.select (Ideal.cmp _ _ _) _ _ = _
      unfold Ideal.cmp
      rw [Ideal.ofBits_zero_f32, show BitVec.ofBool (decide ((0 : EReal) = 0)) = 1#1 by simp]; rfl
    have e0 : Ideal.exp2 0 = (((2 : ℝ) ^ (0 : ℤ) : ℝ) : EReal) := by rw [← exp2_int]; norm_num
    have h127 := pw_mid 127 (by norm_num) (by norm_num)
    rw [he, hx, Ideal.ofBits_zero_f32, sub_zero, e0]
    exact ⟨h127, h127⟩
  · have hx : 0 < a * (C : EReal) := EReal.mul_pos ha (by exact_mod_cast hC)
    obtain ⟨n, hn, h1, h2⟩ := expo_eq _ hx
    obtain ⟨s1, s2⟩ := sub_fields ⟨n, by omega⟩
    have he : e = ((((n : ℤ) - 126 : ℤ) : ℝ) : EReal) := by
      show Scalar.select (Ideal.cmp _ _ _) _ _ = _
      unfold Ideal.cmp
      rw [Ideal.ofBits_zero_f32, show BitVec.ofBool (decide (a = 0)) = 0#1 by simp [ha.ne'], h2]
      push_cast; rfl
    have he' : Ideal.ofBits FTy.f32 0x00000000#32 - e = (((126 - (n : ℤ) : ℤ) : ℝ) : EReal) := by
      rw [he, Ideal.ofBits_zero_f32, zero_sub, ← EReal.coe_neg]; congr 1; push_cast; ring
    rw [he', he, h1, exp2_int, exp2_int]
    unfold scaleOf invOf
    simp only at s1 s2
    rw [s1, s2]
    constructor
    · refine (pw_mid (n + 1) (by omega) (by omega)).trans ?_
      congr 2; push_cast; ring
    · refine (pw_mid (253 - n) (by omega) (by omega)).trans ?_
      congr 2; omega

end Cert.Adam

end
-- ==== Proof.Column.lean ====
module

public import proofs.«01_k».proof.Proof.Exponent

@[expose] public section

noncomputable section

namespace Cert.Adam

open Idealize.ShloMosaic

/-! ## One column of the update, over the extended reals -/

/-- The new first moment of an element: the code `c` times the column's scale `ms`, decayed over `k` steps, and the gradient `g`. -/
def mEl (k ms c g : EReal) : EReal :=
  Ideal.ofBits .f32 0x3F666666#32 * (Ideal.exp (k * Ideal.ofBits .f32 0xBDD7C745#32) * (c * ms)) + Ideal.ofBits .f32 0x3DCCCCCD#32 * g

/-- The new second moment of a column, from the sum `s` of its squared gradients. -/
def vEl (k v s : EReal) : EReal :=
  Ideal.ofBits .f32 0x3F733333#32 * (Ideal.exp (k * Ideal.ofBits .f32 0xBD5218EE#32) * v)
    + Ideal.ofBits .f32 0x3D4CCCCD#32 * (s * ((1 / 2880 : ℝ) : EReal))

/-- The greatest magnitude of a column. -/
def amax (f : Fin 2880 → EReal) : EReal := Finset.univ.fold max ⊥ fun i => max (f i) (-(f i))

/-- The sum of a column's squares. -/
def sumSq (g : Fin 2880 → EReal) : EReal := ∑ i, g i * g i

/-- The denominator of a column's update. -/
def den (bc2 v : EReal) : EReal := Ideal.sqrt (Ideal.div v bc2) + Ideal.ofBits .f32 0x322BCC77#32

/-- The kernel's new weight of an element. -/
def wK (bc1 d m w : EReal) : EReal := w - Ideal.div (Ideal.div (Ideal.ofBits .f32 0x3A83126F#32) bc1) d * m

/-- The reference's. -/
def wR (bc1 d m w : EReal) : EReal := w - Ideal.div (Ideal.ofBits .f32 0x3A83126F#32 * Ideal.div m bc1) d

/-- An element's code, from the inverse of its column's scale. -/
def code (inv m : EReal) : EReal := min (Ideal.ofBits .f32 0x43E00000#32) (max (Ideal.ofBits .f32 0xC3E00000#32) (m * inv))

/-- A column's greatest magnitude, over the greatest code. -/
def over448 (a : EReal) : EReal := a * Ideal.ofBits .f32 0x3B124925#32

/-- The reference's exponent of a column. -/
def expR (a : EReal) : EReal :=
  Scalar.select (FloatOps.cmpf (F := Ideal) (φ := .f32) CmpFPredicate.oeq a (Ideal.ofBits FTy.f32 0x00000000#32))
    (Ideal.ofBits FTy.f32 0x00000000#32) (logExp (over448 a))

theorem ninf : Ideal.ofBits .f32 0xFF800000#32 = ⊥ := by
  simp [Ideal.ofBits, Ideal.ieee]

theorem amax_le (f : Fin 2880 → EReal) (b : EReal) : amax f ≤ b ↔ ∀ i, max (f i) (-(f i)) ≤ b := by
  unfold amax
  rw [Finset.fold_max_le]
  simp

theorem abs_nonneg (x : EReal) : 0 ≤ max x (-x) := by
  rcases le_total 0 x with h | h
  · exact h.trans (le_max_left _ _)
  · exact (EReal.neg_nonneg.mpr h).trans (le_max_right _ _)

theorem amax_nonneg (f : Fin 2880 → EReal) : 0 ≤ amax f :=
  (abs_nonneg (f 0)).trans ((amax_le f _).mp le_rfl 0)

theorem c448 : ∃ C : ℝ, 0 < C ∧ Ideal.ofBits .f32 0x3B124925#32 = (C : EReal) := by
  refine ⟨_, ?_, by simp only [Ideal.ofBits, Ideal.ieee]; rw [if_neg (by decide), if_neg (by decide)]⟩
  have : (BitVec.extractLsb' (8 + 23) 1 0x3B124925#32 == 1#1) = false := by decide
  rw [this]
  simp only [Bool.false_eq_true, if_false]
  positivity

/-- The kernel's scale of a column is the reference's, -/
theorem scale_col (f : Fin 2880 → EReal) : scaleOf (expo (over448 (amax f))) = Ideal.exp2 (expR (amax f)) := by
  obtain ⟨C, hC, e⟩ := c448
  unfold expR over448
  rw [e]; exact (scale_eq _ (amax_nonneg f) C hC).1

/-- and so is its inverse. -/
theorem inv_col (f : Fin 2880 → EReal) : invOf (expo (over448 (amax f))) = Ideal.exp2 (Ideal.ofBits FTy.f32 0x00000000#32 - expR (amax f)) := by
  obtain ⟨C, hC, e⟩ := c448
  unfold expR over448
  rw [e]; exact (scale_eq _ (amax_nonneg f) C hC).2

theorem eps_pos : ∃ C : ℝ, 0 < C ∧ Ideal.ofBits .f32 0x322BCC77#32 = (C : EReal) := by
  refine ⟨_, ?_, by simp only [Ideal.ofBits, Ideal.ieee]; rw [if_neg (by decide), if_neg (by decide)]⟩
  have : (BitVec.extractLsb' (8 + 23) 1 0x322BCC77#32 == 1#1) = false := by decide
  rw [this]
  simp only [Bool.false_eq_true, if_false]
  positivity

/-- The denominator is never zero: a square root is not negative, or it is minus infinity. -/
theorem den_ne_zero (bc2 v : EReal) : den bc2 v ≠ 0 := by
  obtain ⟨C, hC, e⟩ := eps_pos
  unfold den
  rw [e]
  generalize Ideal.div v bc2 = x
  induction x with
  | bot => show (⊥ : EReal) + _ ≠ 0; simp
  | top => show (⊤ : EReal) + _ ≠ 0; simp
  | coe r =>
    show (if r < 0 then ⊥ else (Real.sqrt r : EReal)) + _ ≠ 0
    split
    · simp
    · rw [← EReal.coe_add]
      have : 0 < Real.sqrt r + C := by have := Real.sqrt_nonneg r; linarith
      exact_mod_cast this.ne'

/-- At a second bias correction that is zero the denominator is infinite, so its inverse is zero. -/
theorem den_zero_inv (v : EReal) : (den 0 v)⁻¹ = 0 := by
  obtain ⟨C, -, e⟩ := eps_pos
  unfold den Ideal.div
  rw [e, if_pos rfl]
  split
  · show ((⊤ : EReal) + (C : EReal))⁻¹ = 0
    rw [EReal.top_add_coe, EReal.inv_top]
  · show ((⊥ : EReal) + (C : EReal))⁻¹ = 0
    rw [EReal.bot_add, EReal.inv_bot]

/-- The two updates are equal: with a first bias correction that is not zero they are the same product, and with both corrections
    zero they are both zero. -/
theorem w_eq (bc1 bc2 v m w : EReal) (h : bc1 = 0 → bc2 = 0) : wK bc1 (den bc2 v) m w = wR bc1 (den bc2 v) m w := by
  unfold wK wR
  congr 1
  by_cases h1 : bc1 = 0
  · have h2 := h h1
    subst h2
    have hd := den_ne_zero 0 v
    have hi := den_zero_inv v
    generalize den 0 v = d at hd hi
    unfold Ideal.div
    rw [if_neg hd, if_neg hd, hi, mul_zero, mul_zero, zero_mul]
  · unfold Ideal.div
    rw [if_neg h1, if_neg h1, if_neg (den_ne_zero bc2 v), if_neg (den_ne_zero bc2 v)]
    ac_rfl

end Cert.Adam

end
-- ==== Proof.KVal.lean ====
module

public import proofs.«01_k».proof.Proof.KBlock
public import proofs.«01_k».proof.Proof.Column

@[expose] public section

noncomputable section

namespace Cert.KernelIdeal.Block

open Idealize.ShloMosaic Idealize.ShloMosaic.TcCoe Cert.KernelIdeal.Gen Cert.Adam

/-! ## The exponent of a row of magnitudes -/

/-- A step of the search for an exponent, on a row. -/
def bitStepV (x : FVec Ideal S1x512 .f32) (f : IVec S1x512 32) (b : BitVec 32) : IVec S1x512 32 :=
  select (cmpf .oge x (bitcastToFloat .f32 (shli (addi f (broadcast S1x512 b)) (broadcast S1x512 23#32)))) (addi f (broadcast S1x512 b)) f

theorem bitStepV_apply (x : FVec Ideal S1x512 .f32) (f : IVec S1x512 32) (b : BitVec 32) (j : S1x512.Idx) :
    bitStepV x f b j = bitStep (x j) (f j) b := by rfl

theorem pay16_eq (a : FVec Ideal S1x512 .f32) :
    k0_pay16 a = bitStepV (k0_pay15 a) (bitStepV (k0_pay15 a) (bitStepV (k0_pay15 a) (bitStepV (k0_pay15 a) (broadcast S1x512 0#32) 128#32) 64#32) 32#32) 16#32 := by
  rfl

theorem pay17_eq (x : FVec Ideal S1x512 .f32) (f : IVec S1x512 32) :
    k0_pay17 x f 8#32 = select (cmpf .oeq x (broadcast S1x512 (Ideal.ofBits FTy.f32 0x00000000#32))) (broadcast S1x512 0#32)
      (subi (minsi (bitStepV x (bitStepV x (bitStepV x (bitStepV x f 8#32) 4#32) 2#32) 1#32) (broadcast S1x512 252#32)) (broadcast S1x512 126#32)) := by
  rfl

/-- The kernel's exponents are those the search finds for each magnitude over 448. -/
theorem pay17_apply (a : FVec Ideal S1x512 .f32) (j : S1x512.Idx) :
    k0_pay17 (k0_pay15 a) (k0_pay16 a) 8#32 j = expo (over448 (a j)) := by
  rw [pay17_eq, pay16_eq]
  show Scalar.select _ _ (IntOp.subi (IntOp.minsi (bitStepV _ _ _ j) _) _) = _
  simp only [bitStepV_apply]
  rfl

/-! ## The rows of a trip -/

theorem ld_rowsA {α : EltTy → Type} {e : EltTy} (x : S2880x512.Idx → α e) (t : Fin k0_t1_loop.trips) (a : Fin 64) (b : Fin 512) :
    View.ld x (rowsA t) (ix2 a b) = x (ix2 ⟨64 * t.val + a.val, by have := t.isLt.trans_eq trips1; omega⟩ b) := by
  show x ((rowsA t).emb _) = _
  congr 1
  funext i
  match i with
  | ⟨0, _⟩ => apply Fin.ext; show k0_off1 t 0 + 1 * a.val = 64 * t.val + a.val; rw [k0_off1_eq]; simp
  | ⟨1, _⟩ => apply Fin.ext; show k0_off1 t 1 + 1 * b.val = b.val; rw [k0_off1_eq]; simp

theorem ld_rowsG {α : EltTy → Type} {e : EltTy} (x : S1x2880x512.Idx → α e) (t : Fin k0_t1_loop.trips) (z : Fin 1) (a : Fin 64) (b : Fin 512) :
    View.ld x (rowsG t) (ix3 z a b) = x (ix3 z ⟨64 * t.val + a.val, by have := t.isLt.trans_eq trips1; omega⟩ b) := by
  show x ((rowsG t).emb _) = _
  congr 1
  funext i
  match i with
  | ⟨0, _⟩ => apply Fin.ext; show k0_off2 t 0 + 1 * z.val = z.val; rw [k0_off2_eq]; simp
  | ⟨1, _⟩ => apply Fin.ext; show k0_off2 t 1 + 1 * a.val = 64 * t.val + a.val; rw [k0_off2_eq]; simp
  | ⟨2, _⟩ => apply Fin.ext; show k0_off2 t 2 + 1 * b.val = b.val; rw [k0_off2_eq]; simp

theorem ld_rowsB {α : EltTy → Type} {e : EltTy} (x : S2880x512.Idx → α e) (t : Fin k0_t2_loop.trips) (a : Fin 64) (b : Fin 512) :
    View.ld x (rowsB t) (ix2 a b) = x (ix2 ⟨64 * t.val + a.val, by have := t.isLt.trans_eq trips2; omega⟩ b) := by
  show x ((rowsB t).emb _) = _
  congr 1
  funext i
  match i with
  | ⟨0, _⟩ => apply Fin.ext; show k0_off3 t 0 + 1 * a.val = 64 * t.val + a.val; rw [k0_off3_eq]; simp
  | ⟨1, _⟩ => apply Fin.ext; show k0_off3 t 1 + 1 * b.val = b.val; rw [k0_off3_eq]; simp

section
variable (x1 : Vec Ideal S2880x512 .fp8e4m3) (x2 : Vec Ideal S2880x512 .bf16) (x3 : Vec Ideal S1x2880x512 .bf16)
  (x4 x5 x6 : Vec Ideal S1x1x512 .f32)

/-- The new moment of element `i` of the block's column `j`. -/
def M (j : Fin 512) (i : Fin 2880) : EReal := mEl (x6 (ix3 0 0 j)) (x4 (ix3 0 0 j)) (x1 (ix2 i j)) (x3 (ix3 0 i j))

theorem pay7_tile (t : Fin k0_t1_loop.trips) (a : Fin 64) (j : Fin 512) :
    k0_pay7 x6 x4 (View.ld x1 (rowsA t)) (View.ld x3 (rowsG t)) (ix2 a j)
      = M x1 x3 x4 x6 j ⟨64 * t.val + a.val, by have := t.isLt.trans_eq trips1; omega⟩ := by
  have h1 := ld_rowsA (α := Elt Ideal) x1 t a j
  have h3 := ld_rowsG (α := Elt Ideal) x3 t 0 a j
  generalize View.ld x1 (rowsA t) = y1 at h1 ⊢
  generalize View.ld x3 (rowsG t) = y3 at h3 ⊢
  unfold M mEl
  rw [← h1, ← h3]
  pointwise [k0_pay7, k0_pay6, k0_pay4]

theorem mTile_apply (t : Fin 45) (a : Fin 64) (j : Fin 512) :
    mTile x1 x3 x4 x6 t (ix2 a j) = M x1 x3 x4 x6 j ⟨64 * t.val + a.val, by omega⟩ := by
  unfold mTile k0_pay8
  exact (by pointwise : _ = _).trans (pay7_tile x1 x3 x4 x6 (t.cast trips1.symm) a j)

theorem pay9_apply (v2 v10 : Vec Ideal S1x1x512 .f32) (a : FVec Ideal S8x512 .f32) (v140 : Vec Ideal S64x512 .fp8e4m3)
    (v143 : Vec Ideal S1x64x512 .bf16) (r : Fin 8) (j : Fin 512) :
    k0_pay9 v2 v10 a v140 v143 (ix2 r j) = max (a (ix2 r j)) (Finset.univ.fold max ⊥
      fun x : Fin 8 => max (k0_pay7 v2 v10 v140 v143 (ix2 ⟨x.val * 8 + r.val, by omega⟩ j)) (-(k0_pay7 v2 v10 v140 v143 (ix2 ⟨x.val * 8 + r.val, by omega⟩ j)))) := by
  unfold k0_pay9
  rw [← ninf]
  pointwise
  rfl

theorem pay10_apply (a : FVec Ideal S8x512 .f32) (v143 : Vec Ideal S1x64x512 .bf16) (r : Fin 8) (j : Fin 512) :
    k0_pay10 a v143 (ix2 r j) = a (ix2 r j) + ∑ x : Fin 8, v143 (ix3 0 ⟨x.val * 8 + r.val, by omega⟩ j) * v143 (ix3 0 ⟨x.val * 8 + r.val, by omega⟩ j) := by
  pointwise [k0_pay10, k0_pay6]

theorem pay5_apply (i : S8x512.Idx) : k0_pay5 (F := Ideal) i = 0 := by
  pointwise [k0_pay5]

/-- The running maxima after `n` trips are at most `b` exactly when the magnitudes of their rows so far are. -/
theorem acc1_le (r : Fin 8) (j : Fin 512) (b : EReal) (n : ℕ) (hn : n ≤ 45) : (acc x1 x3 x4 x6 n).1 (ix2 r j) ≤ b ↔
    0 ≤ b ∧ ∀ i : Fin 2880, i.val < 64 * n → i.val % 8 = r.val → max (M x1 x3 x4 x6 j i) (-(M x1 x3 x4 x6 j i)) ≤ b := by
  induction n with
  | zero =>
    show k0_pay5 (F := Ideal) (ix2 r j) ≤ b ↔ _
    rw [pay5_apply]
    exact ⟨fun h => ⟨h, fun i hi => absurd hi (by omega)⟩, fun h => h.1⟩
  | succ n ih =>
    rw [acc, dif_pos (show n < 45 from hn)]
    show k0_pay9 (F := Ideal) _ _ _ _ _ (ix2 r j) ≤ b ↔ _
    rw [pay9_apply, max_le_iff, ih (by omega), Finset.fold_max_le]
    simp only [pay7_tile, Finset.mem_univ, true_implies, bot_le, true_and]
    constructor
    · rintro ⟨⟨h0, h1⟩, h2⟩
      refine ⟨h0, fun i hi hr => ?_⟩
      by_cases h : i.val < 64 * n
      · exact h1 i h hr
      · have := h2 ⟨(i.val - 64 * n) / 8, by omega⟩
        have e : (⟨64 * n + ((i.val - 64 * n) / 8 * 8 + r.val), by omega⟩ : Fin 2880) = i := by apply Fin.ext; simp only; omega
        simp only [Fin.val_cast] at this
        rw [e] at this; exact this
    · rintro ⟨h0, h1⟩
      refine ⟨⟨h0, fun i hi hr => h1 i (by omega) hr⟩, fun x => h1 _ ?_ ?_⟩
      · simp only [Fin.val_cast]; omega
      · simp only [Fin.val_cast]; omega

theorem pay11_apply (a : FVec Ideal S8x512 .f32) (j : Fin 512) :
    k0_pay11 a (ix2 0 j) = Finset.univ.fold max ⊥ fun r : Fin 8 => a (ix2 r j) := by
  rw [← ninf]
  pointwise [k0_pay11]

/-- The columns' largest magnitudes. -/
theorem aRow_apply (j : Fin 512) : aRow x1 x3 x4 x6 (ix2 0 j) = amax (M x1 x3 x4 x6 j) := by
  refine eq_of_forall_ge_iff fun b => ?_
  unfold aRow
  rw [pay11_apply, Finset.fold_max_le, amax_le]
  simp only [acc1_le _ _ _ _ _ _ _ 45 le_rfl, Finset.mem_univ, true_implies, bot_le, true_and]
  constructor
  · intro h i
    exact (h ⟨i.val % 8, by omega⟩).2 i (by omega) rfl
  · intro h r
    exact ⟨(abs_nonneg _).trans (h 0), fun i _ _ => h i⟩

/-- Row `i` of the gradient's column `j`, squared. -/
def G (j : Fin 512) (i : ℕ) : EReal := if h : i < 2880 then x3 (ix3 0 ⟨i, h⟩ j) * x3 (ix3 0 ⟨i, h⟩ j) else 0

theorem acc2_apply (r : Fin 8) (j : Fin 512) (n : ℕ) (hn : n ≤ 45) : (acc x1 x3 x4 x6 n).2 (ix2 r j)
    = ∑ t ∈ Finset.range n, ∑ x : Fin 8, G x3 j (64 * t + (x.val * 8 + r.val)) := by
  induction n with
  | zero => exact pay5_apply (ix2 r j)
  | succ n ih =>
    rw [acc, dif_pos (show n < 45 from hn), Finset.sum_range_succ, ← ih (by omega)]
    show k0_pay10 (F := Ideal) _ _ (ix2 r j) = _
    rw [pay10_apply]
    congr 1
    refine Finset.sum_congr rfl fun x _ => ?_
    rw [ld_rowsG (α := Elt Ideal)]
    unfold G
    rw [dif_pos (by omega)]
    rfl

/-- A sum over rows, by tiles of 64 rows, each by its eight rows modulo 8. -/
theorem sum_tiles (g : ℕ → EReal) (n : ℕ) : ∑ r : Fin 8, ∑ t ∈ Finset.range n, ∑ x : Fin 8, g (64 * t + (x.val * 8 + r.val))
    = ∑ i ∈ Finset.range (64 * n), g i := by
  rw [Finset.sum_comm]
  induction n with
  | zero => simp
  | succ n ih =>
    rw [Finset.sum_range_succ, ih, Nat.mul_succ, Finset.sum_range_add, Finset.sum_comm]
    congr 1
    simp only [Finset.sum_range, Fin.sum_univ_succ, Fin.sum_univ_zero]
    simp [add_assoc]

theorem sumSq_eq (j : Fin 512) : ∑ i ∈ Finset.range 2880, G x3 j i = sumSq fun i => x3 (ix3 0 i j) := by
  rw [Finset.sum_range]
  refine Finset.sum_congr rfl fun i _ => ?_
  unfold G
  rw [dif_pos i.isLt]

/-- The constant named for 1/2880. -/
theorem inv_d_eq : (Named.named κ "inv_d" 0x39B60B61#32 : Ideal .f32) = ((1 / 2880 : ℝ) : EReal) :=
  IdealRules.named_const.ideal_named_scalar _ _ _ _ rfl

theorem pay12_apply (v2 : Vec Ideal S1x1x512 .f32) (a : FVec Ideal S8x512 .f32) (v5 : Vec Ideal S1x1x512 .f32) (j : Fin 512) :
    k0_pay12 v2 a v5 (ix2 0 j) = vEl (v2 (ix3 0 0 j)) (v5 (ix3 0 0 j)) (∑ r : Fin 8, a (ix2 r j)) := by
  unfold vEl
  rw [← inv_d_eq]
  pointwise [k0_pay12, k0_pay4]

/-- The columns' new second moments. -/
theorem vRow_apply (j : Fin 512) : vRow x1 x3 x4 x5 x6 (ix2 0 j)
    = vEl (x6 (ix3 0 0 j)) (x5 (ix3 0 0 j)) (sumSq fun i => x3 (ix3 0 i j)) := by
  unfold vRow
  rw [pay12_apply, ← sumSq_eq, ← sum_tiles _ 45]
  simp only [acc2_apply _ _ _ _ _ _ 45 le_rfl]

theorem dRow_apply (bc2 : Elt Ideal .f32) (j : Fin 512) : dRow x1 x3 x4 x5 x6 bc2 (ix2 0 j)
    = den bc2 (vEl (x6 (ix3 0 0 j)) (x5 (ix3 0 0 j)) (sumSq fun i => x3 (ix3 0 i j))) := by
  rw [← vRow_apply]
  unfold dRow
  generalize vRow x1 x3 x4 x5 x6 = v
  unfold den
  pointwise [k0_pay14]

theorem eRow_apply (j : Fin 512) : eRow x1 x3 x4 x6 (ix2 0 j) = expo (over448 (amax (M x1 x3 x4 x6 j))) := by
  rw [← aRow_apply]
  exact pay17_apply _ _

/-- The block's second moments, element by element. -/
theorem vOut_apply (j : Fin 512) : vOut x1 x3 x4 x5 x6 (ix3 0 0 j)
    = vEl (x6 (ix3 0 0 j)) (x5 (ix3 0 0 j)) (sumSq fun i => x3 (ix3 0 i j)) := by
  rw [← vRow_apply x1 x3 x4 x5 x6]
  unfold vOut vRow
  pointwise [k0_pay13]

/-- The block's scales. -/
theorem sOut_apply (j : Fin 512) : sOut x1 x3 x4 x6 (ix3 0 0 j) = scaleOf (expo (over448 (amax (M x1 x3 x4 x6 j)))) := by
  rw [← eRow_apply]
  unfold sOut scaleOf
  generalize eRow x1 x3 x4 x6 = e
  pointwise [k0_pay1]

theorem untile_apply {α : Type} (f : Fin 45 → S64x512.Idx → α) (i : Fin 2880) (j : Fin 512) :
    untile f (ix2 i j) = f ⟨i.val / 64, by omega⟩ (ix2 ⟨i.val % 64, by omega⟩ j) := by
  refine congrArg (f ⟨i.val / 64, by omega⟩) (funext fun a => ?_)
  match a with
  | ⟨0, _⟩ => rfl
  | ⟨1, _⟩ => rfl

/-- The block's codes. -/
theorem cOut_apply (i : Fin 2880) (j : Fin 512) : cOut x1 x3 x4 x6 (ix2 i j)
    = code (invOf (expo (over448 (amax (M x1 x3 x4 x6 j))))) (M x1 x3 x4 x6 j i) := by
  rw [← eRow_apply]
  have hm := mTile_apply x1 x3 x4 x6 ⟨i.val / 64, by omega⟩ ⟨i.val % 64, by omega⟩ j
  rw [show (⟨64 * (i.val / 64) + i.val % 64, by omega⟩ : Fin 2880) = i from Fin.ext (by simp only; omega)] at hm
  unfold cOut
  rw [untile_apply, ← hm]
  generalize eRow x1 x3 x4 x6 = e
  generalize mTile x1 x3 x4 x6 ⟨i.val / 64, _⟩ = mt
  unfold code invOf
  pointwise [k0_pay3]

/-- The block's weights. -/
theorem wOut_apply (bc1 bc2 : Elt Ideal .f32) (i : Fin 2880) (j : Fin 512) : wOut x1 x2 x3 x4 x5 x6 bc1 bc2 (ix2 i j)
    = wK bc1 (den bc2 (vEl (x6 (ix3 0 0 j)) (x5 (ix3 0 0 j)) (sumSq fun i => x3 (ix3 0 i j)))) (M x1 x3 x4 x6 j i) (x2 (ix2 i j)) := by
  rw [← dRow_apply x1 x3 x4 x5 x6]
  have hm := mTile_apply x1 x3 x4 x6 ⟨i.val / 64, by omega⟩ ⟨i.val % 64, by omega⟩ j
  have hw := ld_rowsB (α := Elt Ideal) x2 (Fin.cast trips2.symm ⟨i.val / 64, by omega⟩) ⟨i.val % 64, by omega⟩ j
  simp only [Fin.val_cast] at hw
  rw [show (⟨64 * (i.val / 64) + i.val % 64, by omega⟩ : Fin 2880) = i from Fin.ext (by simp only; omega)] at hm hw
  unfold wOut
  rw [untile_apply, ← hm, ← hw]
  generalize dRow x1 x3 x4 x5 x6 bc2 = d
  generalize mTile x1 x3 x4 x6 ⟨i.val / 64, _⟩ = mt
  generalize View.ld x2 (rowsB (Fin.cast trips2.symm ⟨i.val / 64, _⟩)) = wt
  unfold wK
  pointwise [k0_pay2]
end

end Cert.KernelIdeal.Block

end
-- ==== Proof.Spec.lean ====
module

public import proofs.«01_k».proof.Proof.Column

@[expose] public section

noncomputable section

namespace Cert.Adam

open Idealize.ShloMosaic

/-! ## The whole update, over the extended reals -/

/-- What the update reads: for each gathered column its steps since the last update, its scale and its second moment; for each
    element its code, its weight and its gradient; and the two bias corrections. -/
structure Data where
  k : Fin 24576 → EReal
  ms : Fin 24576 → EReal
  v : Fin 24576 → EReal
  c : Fin 2880 → Fin 24576 → EReal
  w : Fin 2880 → Fin 24576 → EReal
  g : Fin 2880 → Fin 24576 → EReal
  bc1 : EReal
  bc2 : EReal

namespace Data

variable (D : Data)

/-- The new first moment of element `i` of column `j`. -/
def mNew (j : Fin 24576) (i : Fin 2880) : EReal := mEl (D.k j) (D.ms j) (D.c i j) (D.g i j)

/-- The new second moment of column `j`. -/
def vNew (j : Fin 24576) : EReal := vEl (D.k j) (D.v j) (sumSq fun i => D.g i j)

/-- The new weight. -/
def wNew (i : Fin 2880) (j : Fin 24576) : EReal := wR D.bc1 (den D.bc2 (D.vNew j)) (D.mNew j i) (D.w i j)

/-- The new scale of column `j`. -/
def sNew (j : Fin 24576) : EReal := Ideal.exp2 (expR (amax (D.mNew j)))

/-- The new code. -/
def cNew (i : Fin 2880) (j : Fin 24576) : EReal :=
  code (Ideal.exp2 (Ideal.ofBits .f32 0x00000000#32 - expR (amax (D.mNew j)))) (D.mNew j i)

/-- The four arrays the update leaves: the weights, -/
def wArr (y : (⟨2, ![2880, 24576]⟩ : Shape).Idx) : EReal := D.wNew (y 0) (y 1)

/-- the codes, -/
def cArr (y : (⟨2, ![2880, 24576]⟩ : Shape).Idx) : EReal := D.cNew (y 0) (y 1)

end Data

/-- Column `j` of the columns' block `t`. -/
def col (t : Fin 48) (j : Fin 512) : Fin 24576 := ⟨t.val * 512 + j.val, by omega⟩

/-- the scales, by blocks of columns, -/
def Data.sArr (D : Data) (y : (⟨3, ![48, 1, 512]⟩ : Shape).Idx) : EReal := D.sNew (col (y 0) (y 2))

/-- and the second moments. -/
def Data.vArr (D : Data) (y : (⟨3, ![48, 1, 512]⟩ : Shape).Idx) : EReal := D.vNew (col (y 0) (y 2))

end Cert.Adam

end
-- ==== Proof.KFinal.lean ====
module

public import proofs.«01_k».proof.Proof.KRun
public import proofs.«01_k».proof.Proof.KVal
public import proofs.«01_k».proof.Proof.Spec
public import Idealize.ShloMosaic.Lib.Claim
public import Idealize.ShloMosaic.Lib.Pointwise
public import Idealize.ShloMosaic.Lib.Pipeline.ValueKit.Geometry

@[expose] public section

noncomputable section

/-! The kernel's result arrays, element by element. -/

namespace Cert.KernelIdeal.Final

open Cert.KernelIdeal Cert.KernelIdeal.Gen Cert.KernelIdeal.Run Cert.KernelIdeal.Block Cert.Adam
open Idealize.ShloMosaic Idealize.ShloMosaic.TcCoe

variable (m : (ℓ : Loc nD τ sig) → Buf (Elt Ideal) ℓ) (c : Dev nD)

/-! ## What the program computes before the call -/

/-- The rows' identifiers, with the negative ones counted from the end. -/
def rows (r : IVec S24576 32) : IVec S24576x1 32 :=
  broadcastInDim S24576x1 ![0] bcast_S24576_S24576x1_0
    (select (cmpi CmpIPredicate.slt r (broadcastInDim S24576 ![] bcast_S_S24576 (constantI S_ 32 0#32)))
      (addi r (broadcastInDim S24576 ![] bcast_S_S24576 (constantI S_ 32 64000#32))) r)

/-- The gathered columns' scales (or second moments). -/
def gathered (x : FVec Ideal S64000 .f32) (r : IVec S24576 32) : FVec Ideal S24576 .f32 :=
  Host.gather gather_S64000_S24576x1_S24576_n_0_n_n_0_1_1 x (rows r)

/-- The gathered columns' steps since their last update, less one. -/
def ages (x : IVec S64000 32) (s : IVec S_ 32) (r : IVec S24576 32) : FVec Ideal S24576 .f32 :=
  subf (sitofp FTy.f32 (subi (broadcastInDim S24576 ![] bcast_S_S24576 s)
      (Host.gather gather_S64000_S24576x1_S24576_n_0_n_n_0_1_1 x (rows r))))
    (broadcastInDim S24576 ![] bcast_S_S24576 (constant S_ FTy.f32 0x3F800000#32))

/-- A bias correction, from the logarithm of its decay. -/
def correction (b : BitVec 32) (s : IVec S_ 32) : FVec Ideal S_ .f32 :=
  Host.negf (Host.expm1 (mulf (sitofp FTy.f32 s) (constant S_ FTy.f32 b)))

/-- What the update reads, from the arrays the program is given. -/
def dataOf (x0 : FVec Ideal S2880x24576 .bf16) (x1 : FVec Ideal S2880x24576 .fp8e4m3) (x2 x3 : FVec Ideal S64000 .f32) (x4 : IVec S64000 32)
    (x5 : IVec S_ 32) (x6 : IVec S24576 32) (x7 : FVec Ideal S6x4096x2880 .bf16) : Data where
  k j := ages x4 x5 x6 (ix1 j)
  ms j := gathered x2 x6 (ix1 j)
  v j := gathered x3 x6 (ix1 j)
  c i j := x1 (ix2 i j)
  w i j := x0 (ix2 i j)
  g i j := x7 (ix3 ⟨j.val / 4096, by omega⟩ ⟨j.val % 4096, by omega⟩ i)
  bc1 := correction 0xBDD7C745#32 x5 (fun a => a.elim0)
  bc2 := correction 0xBD5218EE#32 x5 (fun a => a.elim0)

/-- What the update reads, from the program's arguments. -/
def data : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem v0_eq : V m c main_v0 = transpose S6x2880x4096 [0, 2, 1] (m ((c : Thread nD τ).loc main_arg7)) transposes_S6x4096x2880_S6x2880x4096_0_2_1 := by
  entry_read
  rfl

theorem v10_eq : V m c main_v10 = concatenate S2 0
    [⟨S1, broadcastInDim S1 ![] bcast_S_S1 (correction 0xBDD7C745#32 (m ((c : Thread nD τ).loc main_arg5)))⟩,
      ⟨S1, broadcastInDim S1 ![] bcast_S_S1 (correction 0xBD5218EE#32 (m ((c : Thread nD τ).loc main_arg5)))⟩] concatenates_S1_S1_S2_d0 := by
  entry_read
  rfl

theorem v18_eq : V m c main_v18
    = shapeCast S48x1x512 (gathered (m ((c : Thread nD τ).loc main_arg2)) (m ((c : Thread nD τ).loc main_arg6))) shapeCasts_S24576_S48x1x512 := by
  entry_read
  rfl

theorem v26_eq : V m c main_v26
    = shapeCast S48x1x512 (gathered (m ((c : Thread nD τ).loc main_arg3)) (m ((c : Thread nD τ).loc main_arg6))) shapeCasts_S24576_S48x1x512 := by
  entry_read
  rfl

theorem v39_eq : V m c main_v39
    = shapeCast S48x1x512 (ages (m ((c : Thread nD τ).loc main_arg4)) (m ((c : Thread nD τ).loc main_arg5)) (m ((c : Thread nD τ).loc main_arg6)))
        shapeCasts_S24576_S48x1x512 := by
  entry_read
  rfl

theorem cast_apply (x : FVec Ideal S24576 .f32) (t : Fin 48) (j : Fin 512) :
    shapeCast S48x1x512 x shapeCasts_S24576_S48x1x512 (ix3 t 0 j) = x (ix1 (col t j)) := by
  unfold col
  pointwise

theorem swap_apply (x : FVec Ideal S6x4096x2880 .bf16) (a : Fin 6) (i : Fin 2880) (j : Fin 4096) :
    transpose S6x2880x4096 [0, 2, 1] x transposes_S6x4096x2880_S6x2880x4096_0_2_1 (ix3 a i j) = x (ix3 a j i) := by
  pointwise

theorem pair_apply (x y : FVec Ideal S_ .f32) (h : Fin 2) :
    concatenate S2 0 [⟨S1, broadcastInDim S1 ![] bcast_S_S1 x⟩, ⟨S1, broadcastInDim S1 ![] bcast_S_S1 y⟩] concatenates_S1_S1_S2_d0 (ix1 h)
      = (if h = 0 then x else y) (fun a => a.elim0) := by
  have z : ∀ z : FVec Ideal S_ .f32, z ix0 = z fun a => a.elim0 := fun z => congrArg z (funext fun a => a.elim0)
  fin_cases h
  · pointwise
    exact z x
  · pointwise
    exact z y

/-! ## The blocks of a grid point -/

theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![t.val / 8, 0, t.val % 8] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)
theorem idx9 : ∀ t : Fin cfg0.N, win0_9.index t = ![t.val, 0, 0] := (by decide +kernel : ∀ t : Fin grid0.N, _)
theorem idx10 : ∀ t : Fin cfg0.N, win0_10.index t = ![t.val, 0, 0] := (by decide +kernel : ∀ t : Fin grid0.N, _)

theorem points : cfg0.N = 48 := by decide

/-- The block of columns a grid point works on. -/
def blkOf (t : Fin cfg0.N) : Fin 48 := ⟨t.val, points ▸ t.isLt⟩

theorem codes_at (t : Fin cfg0.N) (i : Fin 2880) (j : Fin 512) : iblk m c 1 t (ix2 i j) = (data m c).c i (col (blkOf t) j) := by
  show _ = m ((c : Thread nD τ).loc main_arg1) (ix2 i (col (blkOf t) j))
  rw [← V_main_arg1 m c]
  blk_simp [iblk]
  refine congrArg (V m c main_arg1) ?_
  blk_ext [idx1, col, blkOf]

theorem weights_at (t : Fin cfg0.N) (i : Fin 2880) (j : Fin 512) : iblk m c 2 t (ix2 i j) = (data m c).w i (col (blkOf t) j) := by
  show _ = m ((c : Thread nD τ).loc main_arg0) (ix2 i (col (blkOf t) j))
  rw [← V_main_arg0 m c]
  blk_simp [iblk]
  refine congrArg (V m c main_arg0) ?_
  blk_ext [idx2, col, blkOf]

theorem grad_at (t : Fin cfg0.N) (i : Fin 2880) (j : Fin 512) : iblk m c 3 t (ix3 0 i j) = (data m c).g i (col (blkOf t) j) := by
  have hj := j.isLt
  have e := swap_apply (m ((c : Thread nD τ).loc main_arg7)) ⟨(col (blkOf t) j).val / 4096, by omega⟩ i ⟨(col (blkOf t) j).val % 4096, by omega⟩
  rw [← v0_eq] at e
  refine Eq.trans ?_ e
  blk_simp [iblk]
  refine congrArg (V m c main_v0) ?_
  blk_ext [idx3, col, blkOf]

theorem scale_at (t : Fin cfg0.N) (j : Fin 512) : iblk m c 4 t (ix3 0 0 j) = (data m c).ms (col (blkOf t) j) := by
  have e := cast_apply (gathered (m ((c : Thread nD τ).loc main_arg2)) (m ((c : Thread nD τ).loc main_arg6))) (blkOf t) j
  rw [← v18_eq] at e
  refine Eq.trans ?_ e
  blk_simp [iblk]
  refine congrArg (V m c main_v18) ?_
  blk_ext [idx4, blkOf]

theorem second_at (t : Fin cfg0.N) (j : Fin 512) : iblk m c 5 t (ix3 0 0 j) = (data m c).v (col (blkOf t) j) := by
  have e := cast_apply (gathered (m ((c : Thread nD τ).loc main_arg3)) (m ((c : Thread nD τ).loc main_arg6))) (blkOf t) j
  rw [← v26_eq] at e
  refine Eq.trans ?_ e
  blk_simp [iblk]
  refine congrArg (V m c main_v26) ?_
  blk_ext [idx5, blkOf]

theorem age_at (t : Fin cfg0.N) (j : Fin 512) : iblk m c 6 t (ix3 0 0 j) = (data m c).k (col (blkOf t) j) := by
  have e := cast_apply (ages (m ((c : Thread nD τ).loc main_arg4)) (m ((c : Thread nD τ).loc main_arg5)) (m ((c : Thread nD τ).loc main_arg6))) (blkOf t) j
  rw [← v39_eq] at e
  refine Eq.trans ?_ e
  blk_simp [iblk]
  refine congrArg (V m c main_v39) ?_
  blk_ext [idx6, blkOf]

theorem idx0 : ∀ t : Fin cfg0.N, win0_0.index t = ![0] := (by decide +kernel : ∀ t : Fin grid0.N, _)

theorem pair_at (t : Fin cfg0.N) (h : Fin 2) : bcAt (iblk m c 0 t) h = if h = 0 then (data m c).bc1 else (data m c).bc2 := by
  have e := pair_apply (correction 0xBDD7C745#32 (m ((c : Thread nD τ).loc main_arg5))) (correction 0xBD5218EE#32 (m ((c : Thread nD τ).loc main_arg5))) h
  rw [← v10_eq] at e
  have e' : (if h = 0 then (data m c).bc1 else (data m c).bc2) = V m c main_v10 (ix1 h) := by
    rw [e]; split <;> rfl
  rw [e']
  unfold bcAt
  blk_simp [iblk]
  refine congrArg (V m c main_v10) ?_
  blk_ext [idx0]

/-! ## The columns of a grid point's blocks -/

theorem M_eq (t : Fin cfg0.N) (j : Fin 512) :
    Block.M (iblk m c 1 t) (iblk m c 3 t) (iblk m c 4 t) (iblk m c 6 t) j = (data m c).mNew (col (blkOf t) j) := by
  funext i
  unfold Block.M Data.mNew
  rw [codes_at, grad_at, scale_at, age_at]

theorem v_eq (t : Fin cfg0.N) (j : Fin 512) :
    vEl (iblk m c 6 t (ix3 0 0 j)) (iblk m c 5 t (ix3 0 0 j)) (sumSq fun i => iblk m c 3 t (ix3 0 i j)) = (data m c).vNew (col (blkOf t) j) := by
  unfold Data.vNew
  rw [age_at, second_at]
  simp only [grad_at]

/-! ## The arrays -/

theorem emb7 (t : Fin cfg0.N) (i : Fin 2880) (j : Fin 512) : (win0_7.blk t).view.emb (ix2 i j) = ix2 i (col (blkOf t) j) := by
  blk_ext [idx7, blkOf, col]

theorem emb7_row (t : Fin cfg0.N) (i : Fin 2880) (j : Fin 512) : (win0_7.blk t).view.emb (ix2 i j) 0 = i := by
  rw [emb7]
  rfl

theorem emb7_col (t : Fin cfg0.N) (i : Fin 2880) (j : Fin 512) : (win0_7.blk t).view.emb (ix2 i j) 1 = col (blkOf t) j := by
  rw [emb7]
  rfl

theorem emb8 (t : Fin cfg0.N) (i : Fin 2880) (j : Fin 512) : (win0_8.blk t).view.emb (ix2 i j) = ix2 i (col (blkOf t) j) := by
  blk_ext [idx8, blkOf, col]

theorem emb8_row (t : Fin cfg0.N) (i : Fin 2880) (j : Fin 512) : (win0_8.blk t).view.emb (ix2 i j) 0 = i := by
  rw [emb8]
  rfl

theorem emb8_col (t : Fin cfg0.N) (i : Fin 2880) (j : Fin 512) : (win0_8.blk t).view.emb (ix2 i j) 1 = col (blkOf t) j := by
  rw [emb8]
  rfl

theorem emb9 (t : Fin cfg0.N) (j : Fin 512) : (win0_9.blk t).view.emb (ix3 0 0 j) = ix3 (blkOf t) 0 j := by
  blk_ext [idx9, blkOf]

theorem emb9_blk (t : Fin cfg0.N) (j : Fin 512) : (win0_9.blk t).view.emb (ix3 0 0 j) 0 = blkOf t := by
  rw [emb9]
  rfl

theorem emb9_lane (t : Fin cfg0.N) (j : Fin 512) : (win0_9.blk t).view.emb (ix3 0 0 j) 2 = j := by
  rw [emb9]
  rfl

theorem emb10 (t : Fin cfg0.N) (j : Fin 512) : (win0_10.blk t).view.emb (ix3 0 0 j) = ix3 (blkOf t) 0 j := by
  blk_ext [idx10, blkOf]

theorem emb10_blk (t : Fin cfg0.N) (j : Fin 512) : (win0_10.blk t).view.emb (ix3 0 0 j) 0 = blkOf t := by
  rw [emb10]
  rfl

theorem emb10_lane (t : Fin cfg0.N) (j : Fin 512) : (win0_10.blk t).view.emb (ix3 0 0 j) 2 = j := by
  rw [emb10]
  rfl

/-- The weights the kernel leaves, when the first bias correction is zero only with the second. -/
theorem final7 (h : (data m c).bc1 = 0 → (data m c).bc2 = 0) : (dats m 0 c).arrAt 7 cfg0.N = (data m c).wArr := by
  unfold Data.wArr
  refine (dats m 0 c).arrAt_eq_of_covers 7 _ (by decide +kernel) fun t hf y => ?_
  blk_simp
  rw [after0_7]
  obtain ⟨i, j, rfl⟩ : ∃ (i : Fin 2880) (j : Fin 512), y = ix2 i j := ⟨y 0, y 1, by funext a; match a with | ⟨0, _⟩ => rfl | ⟨1, _⟩ => rfl⟩
  rw [wOut_apply, M_eq, v_eq, weights_at, pair_at, pair_at, if_pos rfl, if_neg (by decide), w_eq _ _ _ _ _ h]
  unfold Data.wNew
  rw [emb7_row, emb7_col]

/-- The codes the kernel leaves. -/
theorem final8 : (dats m 0 c).arrAt 8 cfg0.N = (data m c).cArr := by
  unfold Data.cArr
  refine (dats m 0 c).arrAt_eq_of_covers 8 _ (by decide +kernel) fun t hf y => ?_
  blk_simp
  rw [after0_8]
  obtain ⟨i, j, rfl⟩ : ∃ (i : Fin 2880) (j : Fin 512), y = ix2 i j := ⟨y 0, y 1, by funext a; match a with | ⟨0, _⟩ => rfl | ⟨1, _⟩ => rfl⟩
  rw [cOut_apply, inv_col, M_eq]
  unfold Data.cNew
  rw [emb8_row, emb8_col]

/-- The scales the kernel leaves. -/
theorem final9 : (dats m 0 c).arrAt 9 cfg0.N = (data m c).sArr := by
  unfold Data.sArr
  refine (dats m 0 c).arrAt_eq_of_covers 9 _ (by decide +kernel) fun t hf y => ?_
  blk_simp
  rw [after0_9]
  obtain ⟨j, rfl⟩ : ∃ j : Fin 512, y = ix3 0 0 j := ⟨y 2, by funext a; match a with | ⟨0, _⟩ => exact Subsingleton.elim (α := Fin 1) _ _ | ⟨1, _⟩ => exact Subsingleton.elim (α := Fin 1) _ _ | ⟨2, _⟩ => rfl⟩
  rw [sOut_apply, scale_col, M_eq]
  unfold Data.sNew
  rw [emb9_blk, emb9_lane]

/-- The second moments the kernel leaves. -/
theorem final10 : (dats m 0 c).arrAt 10 cfg0.N = (data m c).vArr := by
  unfold Data.vArr
  refine (dats m 0 c).arrAt_eq_of_covers 10 _ (by decide +kernel) fun t hf y => ?_
  blk_simp
  rw [after0_10]
  obtain ⟨j, rfl⟩ : ∃ j : Fin 512, y = ix3 0 0 j := ⟨y 2, by funext a; match a with | ⟨0, _⟩ => exact Subsingleton.elim (α := Fin 1) _ _ | ⟨1, _⟩ => exact Subsingleton.elim (α := Fin 1) _ _ | ⟨2, _⟩ => rfl⟩
  rw [vOut_apply, v_eq]
  rw [emb10_blk, emb10_lane]

end Cert.KernelIdeal.Final

end
-- ==== Proof.RRun.lean ====
module

public import proofs.«01_k».proof.Proof.Gen.ReferenceIdeal.Frame
public import Idealize.ShloMosaic.Lib.Pipeline.Value

@[expose] public section

noncomputable section

/-! The reference's run, with its result arrays named: what its single grid point writes back. -/

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2880x24576.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2880x24576.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S48x1x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S48x1x512.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v42_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v42_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v42_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v42_3) = (dats m 0 c).arrAt 10 cfg0.N :=
  (h c).1 10

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v42_0) = (dats m 0 c).arrAt 7 cfg0.N
      ∧ r.2.mem ((c : Thread nD τ).loc main_v42_1) = (dats m 0 c).arrAt 8 cfg0.N
      ∧ r.2.mem ((c : Thread nD τ).loc main_v42_2) = (dats m 0 c).arrAt 9 cfg0.N
      ∧ r.2.mem ((c : Thread nD τ).loc main_v42_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Run

end
-- ==== Proof.RVal.lean ====
module

public import proofs.«01_k».proof.Proof.RRun
public import proofs.«01_k».proof.Proof.Column
public import Idealize.ShloMosaic.Lib.Pointwise

@[expose] public section

noncomputable section

/-! The reference's result blocks, element by element. -/

namespace Cert.ReferenceIdeal.Block

open Idealize.ShloMosaic Idealize.ShloMosaic.TcCoe Cert.ReferenceIdeal.Gen Cert.Adam

theorem off2 : (![0, 0] : Fin 2 → ℕ) = fun _ => 0 := by funext a; fin_cases a <;> rfl
theorem off3 : (![0, 0, 0] : Fin 3 → ℕ) = fun _ => 0 := by funext a; fin_cases a <;> rfl

theorem col_max (v : FVec Ideal S2880x24576 .f32) (j : Fin 24576) :
    shapeCast S1x24576 (multiReduction .maximumf [0] S24576 v 0xFF800000#32 reduces_S2880x24576_S24576 (.inl rfl) rfl) shapeCasts_S24576_S1x24576 (ix2 0 j)
      = Finset.univ.fold max (Ideal.ofBits .f32 0xFF800000#32) fun i : Fin 2880 => v (ix2 i j) := by
  pointwise

/-- The reference's exponents, for a vector of magnitudes of any shape. -/
theorem exps_apply {s : Shape} (w : FVec Ideal s .f32) (i : s.Idx) :
    select (cmpf CmpFPredicate.oeq w (broadcast s (Scalar.ofBits FTy.f32 0#32)))
      (broadcast s (Scalar.ofBits FTy.f32 0#32))
      (minimumf (broadcast s (Scalar.ofBits FTy.f32 0x42FC0000#32))
        (maximumf (broadcast s (Scalar.ofBits FTy.f32 0xC2FC0000#32))
          (addf
            (floor
              (divf (log (mulf w (broadcast s (Scalar.ofBits FTy.f32 0x3B124925#32))))
                (log (broadcast s (Scalar.ofBits FTy.f32 0x40000000#32)))))
            (broadcast s (Scalar.ofBits FTy.f32 0x3F800000#32))))) i = expR (w i) := by
  rfl

theorem pay8_eq (v : FVec Ideal S2880x24576 .f32) (j : Fin 24576) : k0_pay8 v (ix2 0 j)
    = expR (shapeCast S1x24576 (multiReduction .maximumf [0] S24576 (absf v) 0xFF800000#32 reduces_S2880x24576_S24576 (.inl rfl) rfl)
        shapeCasts_S24576_S1x24576 (ix2 0 j)) := by
  unfold k0_pay8
  exact exps_apply _ _

theorem row_apply (v : FVec Ideal S1x24576 .f32) (i : Fin 2880) (j : Fin 24576) :
    broadcastTo S2880x24576 v broadcasts_S1x24576_S2880x24576 (ix2 i j) = v (ix2 0 j) := by
  pointwise

theorem pay1_eq (v : FVec Ideal S2880x24576 .f32) (e z : FVec Ideal S1x24576 .f32) (i : Fin 2880) (j : Fin 24576) : k0_pay1 v e z (ix2 i j)
    = code (broadcastTo S2880x24576 (exp2 (subf z e)) broadcasts_S1x24576_S2880x24576 (ix2 i j)) (v (ix2 i j)) := by
  rfl

theorem exp2_apply (v : FVec Ideal S1x24576 .f32) (j : S1x24576.Idx) : exp2 v j = Ideal.exp2 (v j) := rfl

theorem neg_apply (e : FVec Ideal S1x24576 .f32) (j : S1x24576.Idx) : subf k0_pay9 e j = Ideal.ofBits .f32 0x00000000#32 - e j := by
  pointwise [k0_pay9]

theorem cols_apply (v : FVec Ideal S1x24576 .f32) (t : Fin 48) (j : Fin 512) :
    shapeCast S48x1x512 v shapeCasts_S1x24576_S48x1x512 (ix3 t 0 j) = v (ix2 0 ⟨t.val * 512 + j.val, by omega⟩) := by
  pointwise

section
variable (x0 : Vec Ideal S1x2 .f32) (x1 : Vec Ideal S2880x24576 .fp8e4m3) (x2 x3 : Vec Ideal S2880x24576 .bf16)
  (x4 x5 x6 : Vec Ideal S1x24576 .f32)

/-- The new moment of element `i` of column `j`. -/
def M (j : Fin 24576) (i : Fin 2880) : EReal := mEl (x6 (ix2 0 j)) (x4 (ix2 0 j)) (x1 (ix2 i j)) (x3 (ix2 i j))

theorem m_apply (i : Fin 2880) (j : Fin 24576) : k0_pay10 x0 x1 x2 x3 x4 x5 x6 (ix2 i j) = M x1 x3 x4 x6 j i := by
  unfold k0_pay10 M mEl
  rw [View.ld_unit_zero off2, View.ld_unit_zero off2, View.ld_unit_zero off2, View.ld_unit_zero off2]
  pointwise [k0_pay5, k0_pay4]

theorem c2880 (s : EReal) : Ideal.div s (Ideal.ofBits .f32 0x45340000#32) = s * ((1 / 2880 : ℝ) : EReal) := by
  have h : Ideal.ofBits .f32 0x45340000#32 = ((2880 : ℝ) : EReal) := by
    simp [Ideal.ofBits, Ideal.ieee]; rw [← EReal.coe_mul]; norm_num
  rw [h, Ideal.div, if_neg (by norm_num), ← EReal.coe_inv, one_div]

theorem v_apply (j : Fin 24576) : k0_pay11 x0 x1 x2 x3 x4 x5 x6 (ix2 0 j)
    = vEl (x6 (ix2 0 j)) (x5 (ix2 0 j)) (sumSq fun i => x3 (ix2 i j)) := by
  unfold k0_pay11 vEl sumSq
  rw [← c2880]
  rw [View.ld_unit_zero off2, View.ld_unit_zero off2, View.ld_unit_zero off2]
  pointwise [k0_pay6, k0_pay4]

theorem e_apply (j : Fin 24576) : k0_pay12 x0 x1 x2 x3 x4 x5 x6 (ix2 0 j) = expR (amax (M x1 x3 x4 x6 j)) := by
  have h : (M x1 x3 x4 x6 j) = fun i => k0_pay10 x0 x1 x2 x3 x4 x5 x6 (ix2 i j) := funext fun i => (m_apply x0 x1 x2 x3 x4 x5 x6 i j).symm
  rw [h]
  unfold k0_pay12
  generalize k0_pay10 x0 x1 x2 x3 x4 x5 x6 = mm
  rw [pay8_eq, col_max, ninf]
  rfl

/-- The reference's weights. -/
theorem out7_apply (i : Fin 2880) (j : Fin 24576) : out0_7 x0 x1 x2 x3 x4 x5 x6 (ix2 i j)
    = wR (x0 (ix2 0 0)) (den (x0 (ix2 0 1)) (vEl (x6 (ix2 0 j)) (x5 (ix2 0 j)) (sumSq fun i => x3 (ix2 i j)))) (M x1 x3 x4 x6 j i) (x2 (ix2 i j)) := by
  rw [← m_apply x0 x1 x2 x3 x4 x5 x6, ← v_apply x0 x1 x2 x3 x4 x5 x6]
  have h0 : View.ld x0 r0_2 (ix2 0 0) = x0 (ix2 0 0) := by
    show x0 (r0_2.emb _) = _
    congr 1; funext a; match a with | ⟨0, _⟩ => rfl | ⟨1, _⟩ => rfl
  have h1 : View.ld x0 r0_3 (ix2 0 0) = x0 (ix2 0 1) := by
    show x0 (r0_3.emb _) = _
    congr 1; funext a; match a with | ⟨0, _⟩ => rfl | ⟨1, _⟩ => rfl
  unfold out0_7
  rw [View.canon_unit_zero off2, View.ld_unit_zero off2, ← h0, ← h1]
  generalize k0_pay10 x0 x1 x2 x3 x4 x5 x6 = mm
  generalize k0_pay11 x0 x1 x2 x3 x4 x5 x6 = vv
  generalize View.ld x0 r0_2 = a
  generalize View.ld x0 r0_3 = b
  unfold wR den
  pointwise [k0_pay7]

/-- The reference's codes. -/
theorem out8_apply (i : Fin 2880) (j : Fin 24576) : out0_8 x0 x1 x2 x3 x4 x5 x6 (ix2 i j)
    = code (Ideal.exp2 (Ideal.ofBits .f32 0x00000000#32 - expR (amax (M x1 x3 x4 x6 j)))) (M x1 x3 x4 x6 j i) := by
  rw [← e_apply x0 x1 x2 x3 x4 x5 x6, ← m_apply x0 x1 x2 x3 x4 x5 x6]
  unfold out0_8
  rw [View.canon_unit_zero off2]
  generalize k0_pay10 x0 x1 x2 x3 x4 x5 x6 = mm
  generalize k0_pay12 x0 x1 x2 x3 x4 x5 x6 = ee
  rw [pay1_eq, row_apply, exp2_apply, neg_apply]

/-- The reference's scales. -/
theorem out9_apply (t : Fin 48) (j : Fin 512) : out0_9 x0 x1 x2 x3 x4 x5 x6 (ix3 t 0 j)
    = Ideal.exp2 (expR (amax (M x1 x3 x4 x6 ⟨t.val * 512 + j.val, by omega⟩))) := by
  rw [← e_apply x0 x1 x2 x3 x4 x5 x6]
  unfold out0_9
  rw [View.canon_unit_zero off3]
  generalize k0_pay12 x0 x1 x2 x3 x4 x5 x6 = ee
  exact (cols_apply (exp2 ee) t j).trans (exp2_apply ee _)

/-- The reference's second moments. -/
theorem out10_apply (t : Fin 48) (j : Fin 512) : out0_10 x0 x1 x2 x3 x4 x5 x6 (ix3 t 0 j)
    = vEl (x6 (ix2 0 ⟨t.val * 512 + j.val, by omega⟩)) (x5 (ix2 0 ⟨t.val * 512 + j.val, by omega⟩))
        (sumSq fun i => x3 (ix2 i ⟨t.val * 512 + j.val, by omega⟩)) := by
  rw [← v_apply x0 x1 x2 x3 x4 x5 x6]
  unfold out0_10
  rw [View.canon_unit_zero off3]
  generalize k0_pay11 x0 x1 x2 x3 x4 x5 x6 = vv
  pointwise [k0_pay3]
end

end Cert.ReferenceIdeal.Block

end
-- ==== Proof.RFinal.lean ====
module

public import proofs.«01_k».proof.Proof.RVal
public import proofs.«01_k».proof.Proof.Spec
public import Idealize.ShloMosaic.Lib.Claim
public import Idealize.ShloMosaic.Lib.Pointwise
public import Idealize.ShloMosaic.Lib.Pipeline.ValueKit.Geometry

@[expose] public section

noncomputable section

/-! The reference's result arrays, element by element. -/

namespace Cert.ReferenceIdeal.Final

open Cert.ReferenceIdeal Cert.ReferenceIdeal.Gen Cert.ReferenceIdeal.Run Cert.ReferenceIdeal.Block Cert.Adam
open Idealize.ShloMosaic Idealize.ShloMosaic.TcCoe

variable (m : (ℓ : Loc nD τ sig) → Buf (Elt Ideal) ℓ) (c : Dev nD)

/-! ## What the program computes before the call -/

/-- The rows' identifiers, with the negative ones counted from the end. -/
def rows (r : IVec S24576 32) : IVec S24576x1 32 :=
  broadcastInDim S24576x1 ![0] bcast_S24576_S24576x1_0
    (select (cmpi CmpIPredicate.slt r (broadcastInDim S24576 ![] bcast_S_S24576 (constantI S_ 32 0#32)))
      (addi r (broadcastInDim S24576 ![] bcast_S_S24576 (constantI S_ 32 64000#32))) r)

/-- The gathered columns' scales (or second moments). -/
def gathered (x : FVec Ideal S64000 .f32) (r : IVec S24576 32) : FVec Ideal S24576 .f32 :=
  Host.gather gather_S64000_S24576x1_S24576_n_0_n_n_0_1_1 x (rows r)

/-- The gathered columns' steps since their last update, less one. -/
def ages (x : IVec S64000 32) (s : IVec S_ 32) (r : IVec S24576 32) : FVec Ideal S24576 .f32 :=
  subf (sitofp FTy.f32 (subi (broadcastInDim S24576 ![] bcast_S_S24576 s)
      (Host.gather gather_S64000_S24576x1_S24576_n_0_n_n_0_1_1 x (rows r))))
    (broadcastInDim S24576 ![] bcast_S_S24576 (constant S_ FTy.f32 0x3F800000#32))

/-- A bias correction, from the logarithm of its decay. -/
def correction (b : BitVec 32) (s : IVec S_ 32) : FVec Ideal S_ .f32 :=
  Host.negf (Host.expm1 (mulf (sitofp FTy.f32 s) (constant S_ FTy.f32 b)))

/-- What the update reads, from the arrays the program is given. -/
def dataOf (x0 : FVec Ideal S2880x24576 .bf16) (x1 : FVec Ideal S2880x24576 .fp8e4m3) (x2 x3 : FVec Ideal S64000 .f32) (x4 : IVec S64000 32)
    (x5 : IVec S_ 32) (x6 : IVec S24576 32) (x7 : FVec Ideal S6x4096x2880 .bf16) : Data where
  k j := ages x4 x5 x6 (ix1 j)
  ms j := gathered x2 x6 (ix1 j)
  v j := gathered x3 x6 (ix1 j)
  c i j := x1 (ix2 i j)
  w i j := x0 (ix2 i j)
  g i j := x7 (ix3 ⟨j.val / 4096, by omega⟩ ⟨j.val % 4096, by omega⟩ i)
  bc1 := correction 0xBDD7C745#32 x5 (fun a => a.elim0)
  bc2 := correction 0xBD5218EE#32 x5 (fun a => a.elim0)

/-- What the update reads, from the program's arguments. -/
def data : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem v27_eq : V m c main_v27
    = transpose S2880x24576 [1, 0] (shapeCast S24576x2880 (m ((c : Thread nD τ).loc main_arg7)) shapeCasts_S6x4096x2880_S24576x2880)
        transposes_S24576x2880_S2880x24576_1_0 := by
  entry_read
  rfl

theorem v38_eq : V m c main_v38 = broadcastInDim S1x2 ![1] bcast_S2_S1x2_1 (concatenate S2 0
    [⟨S1, broadcastInDim S1 ![] bcast_S_S1 (correction 0xBDD7C745#32 (m ((c : Thread nD τ).loc main_arg5)))⟩,
      ⟨S1, broadcastInDim S1 ![] bcast_S_S1 (correction 0xBD5218EE#32 (m ((c : Thread nD τ).loc main_arg5)))⟩] concatenates_S1_S1_S2_d0) := by
  entry_read
  rfl

theorem v39_eq : V m c main_v39 = broadcastInDim S1x24576 ![1] bcast_S24576_S1x24576_1
    (gathered (m ((c : Thread nD τ).loc main_arg2)) (m ((c : Thread nD τ).loc main_arg6))) := by
  entry_read
  rfl

theorem v40_eq : V m c main_v40 = broadcastInDim S1x24576 ![1] bcast_S24576_S1x24576_1
    (gathered (m ((c : Thread nD τ).loc main_arg3)) (m ((c : Thread nD τ).loc main_arg6))) := by
  entry_read
  rfl

theorem v41_eq : V m c main_v41 = broadcastInDim S1x24576 ![1] bcast_S24576_S1x24576_1
    (ages (m ((c : Thread nD τ).loc main_arg4)) (m ((c : Thread nD τ).loc main_arg5)) (m ((c : Thread nD τ).loc main_arg6))) := by
  entry_read
  rfl

theorem line_apply (x : FVec Ideal S24576 .f32) (j : Fin 24576) :
    broadcastInDim S1x24576 ![1] bcast_S24576_S1x24576_1 x (ix2 0 j) = x (ix1 j) := by
  pointwise

theorem turn_apply (x : FVec Ideal S6x4096x2880 .bf16) (i : Fin 2880) (j : Fin 24576) :
    transpose S2880x24576 [1, 0] (shapeCast S24576x2880 x shapeCasts_S6x4096x2880_S24576x2880)
        transposes_S24576x2880_S2880x24576_1_0 (ix2 i j) = x (ix3 ⟨j.val / 4096, by omega⟩ ⟨j.val % 4096, by omega⟩ i) := by
  have hj := j.isLt
  have hi := i.isLt
  pointwise

theorem pair_apply (x y : FVec Ideal S_ .f32) (h : Fin 2) :
    broadcastInDim S1x2 ![1] bcast_S2_S1x2_1 (concatenate S2 0 [⟨S1, broadcastInDim S1 ![] bcast_S_S1 x⟩, ⟨S1, broadcastInDim S1 ![] bcast_S_S1 y⟩]
        concatenates_S1_S1_S2_d0) (ix2 0 h)
      = (if h = 0 then x else y) (fun a => a.elim0) := by
  have z : ∀ z : FVec Ideal S_ .f32, z ix0 = z fun a => a.elim0 := fun z => congrArg z (funext fun a => a.elim0)
  fin_cases h
  · pointwise
    exact z x
  · pointwise
    exact z y

/-! ## The blocks of the one grid point -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)

theorem codes_at (t : Fin cfg0.N) (i : Fin 2880) (j : Fin 24576) : iblk m c 1 t (ix2 i j) = (data m c).c i j := by
  show _ = m ((c : Thread nD τ).loc main_arg1) (ix2 i j)
  rw [← V_main_arg1 m c]
  blk_simp [iblk]
  refine congrArg (V m c main_arg1) ?_
  blk_ext [idx1]

theorem weights_at (t : Fin cfg0.N) (i : Fin 2880) (j : Fin 24576) : iblk m c 2 t (ix2 i j) = (data m c).w i j := by
  show _ = m ((c : Thread nD τ).loc main_arg0) (ix2 i j)
  rw [← V_main_arg0 m c]
  blk_simp [iblk]
  refine congrArg (V m c main_arg0) ?_
  blk_ext [idx2]

theorem grad_at (t : Fin cfg0.N) (i : Fin 2880) (j : Fin 24576) : iblk m c 3 t (ix2 i j) = (data m c).g i j := by
  have e := turn_apply (m ((c : Thread nD τ).loc main_arg7)) i j
  rw [← v27_eq] at e
  refine Eq.trans ?_ e
  blk_simp [iblk]
  refine congrArg (V m c main_v27) ?_
  blk_ext [idx3]

theorem scale_at (t : Fin cfg0.N) (j : Fin 24576) : iblk m c 4 t (ix2 0 j) = (data m c).ms j := by
  have e := line_apply (gathered (m ((c : Thread nD τ).loc main_arg2)) (m ((c : Thread nD τ).loc main_arg6))) j
  rw [← v39_eq] at e
  refine Eq.trans ?_ e
  blk_simp [iblk]
  refine congrArg (V m c main_v39) ?_
  blk_ext [idx4]

theorem second_at (t : Fin cfg0.N) (j : Fin 24576) : iblk m c 5 t (ix2 0 j) = (data m c).v j := by
  have e := line_apply (gathered (m ((c : Thread nD τ).loc main_arg3)) (m ((c : Thread nD τ).loc main_arg6))) j
  rw [← v40_eq] at e
  refine Eq.trans ?_ e
  blk_simp [iblk]
  refine congrArg (V m c main_v40) ?_
  blk_ext [idx5]

theorem age_at (t : Fin cfg0.N) (j : Fin 24576) : iblk m c 6 t (ix2 0 j) = (data m c).k j := by
  have e := line_apply (ages (m ((c : Thread nD τ).loc main_arg4)) (m ((c : Thread nD τ).loc main_arg5)) (m ((c : Thread nD τ).loc main_arg6))) j
  rw [← v41_eq] at e
  refine Eq.trans ?_ e
  blk_simp [iblk]
  refine congrArg (V m c main_v41) ?_
  blk_ext [idx6]

theorem pair_at (t : Fin cfg0.N) (h : Fin 2) : iblk m c 0 t (ix2 0 h) = if h = 0 then (data m c).bc1 else (data m c).bc2 := by
  have e := pair_apply (correction 0xBDD7C745#32 (m ((c : Thread nD τ).loc main_arg5))) (correction 0xBD5218EE#32 (m ((c : Thread nD τ).loc main_arg5))) h
  rw [← v38_eq] at e
  have e' : (if h = 0 then (data m c).bc1 else (data m c).bc2) = V m c main_v38 (ix2 0 h) := by
    rw [e]; split <;> rfl
  rw [e']
  blk_simp [iblk]
  refine congrArg (V m c main_v38) ?_
  blk_ext [idx0]

theorem M_eq (t : Fin cfg0.N) (j : Fin 24576) :
    Block.M (iblk m c 1 t) (iblk m c 3 t) (iblk m c 4 t) (iblk m c 6 t) j = (data m c).mNew j := by
  funext i
  unfold Block.M Data.mNew
  rw [codes_at, grad_at, scale_at, age_at]

theorem v_eq (t : Fin cfg0.N) (j : Fin 24576) :
    vEl (iblk m c 6 t (ix2 0 j)) (iblk m c 5 t (ix2 0 j)) (sumSq fun i => iblk m c 3 t (ix2 i j)) = (data m c).vNew j := by
  unfold Data.vNew
  rw [age_at, second_at]
  simp only [grad_at]

/-! ## The arrays -/

theorem emb7 (t : Fin cfg0.N) (i : Fin 2880) (j : Fin 24576) : (win0_7.blk t).view.emb (ix2 i j) = ix2 i j := by
  blk_ext [idx7]

theorem emb7_row (t : Fin cfg0.N) (i : Fin 2880) (j : Fin 24576) : (win0_7.blk t).view.emb (ix2 i j) 0 = i := by
  rw [emb7]
  rfl

theorem emb7_col (t : Fin cfg0.N) (i : Fin 2880) (j : Fin 24576) : (win0_7.blk t).view.emb (ix2 i j) 1 = j := by
  rw [emb7]
  rfl

theorem emb8 (t : Fin cfg0.N) (i : Fin 2880) (j : Fin 24576) : (win0_8.blk t).view.emb (ix2 i j) = ix2 i j := by
  blk_ext [idx8]

theorem emb8_row (t : Fin cfg0.N) (i : Fin 2880) (j : Fin 24576) : (win0_8.blk t).view.emb (ix2 i j) 0 = i := by
  rw [emb8]
  rfl

theorem emb8_col (t : Fin cfg0.N) (i : Fin 2880) (j : Fin 24576) : (win0_8.blk t).view.emb (ix2 i j) 1 = j := by
  rw [emb8]
  rfl

theorem emb9 (t : Fin cfg0.N) (b : Fin 48) (j : Fin 512) : (win0_9.blk t).view.emb (ix3 b 0 j) = ix3 b 0 j := by
  blk_ext [idx9]

theorem emb9_blk (t : Fin cfg0.N) (b : Fin 48) (j : Fin 512) : (win0_9.blk t).view.emb (ix3 b 0 j) 0 = b := by
  rw [emb9]
  rfl

theorem emb9_lane (t : Fin cfg0.N) (b : Fin 48) (j : Fin 512) : (win0_9.blk t).view.emb (ix3 b 0 j) 2 = j := by
  rw [emb9]
  rfl

theorem emb10 (t : Fin cfg0.N) (b : Fin 48) (j : Fin 512) : (win0_10.blk t).view.emb (ix3 b 0 j) = ix3 b 0 j := by
  blk_ext [idx10]

theorem emb10_blk (t : Fin cfg0.N) (b : Fin 48) (j : Fin 512) : (win0_10.blk t).view.emb (ix3 b 0 j) 0 = b := by
  rw [emb10]
  rfl

theorem emb10_lane (t : Fin cfg0.N) (b : Fin 48) (j : Fin 512) : (win0_10.blk t).view.emb (ix3 b 0 j) 2 = j := by
  rw [emb10]
  rfl

/-- The weights the reference leaves. -/
theorem final7 : (dats m 0 c).arrAt 7 cfg0.N = (data m c).wArr := by
  unfold Data.wArr
  refine (dats m 0 c).arrAt_eq_of_covers 7 _ (by decide +kernel) fun t hf y => ?_
  blk_simp
  rw [after0_7]
  obtain ⟨i, j, rfl⟩ : ∃ (i : Fin 2880) (j : Fin 24576), y = ix2 i j := ⟨y 0, y 1, by funext a; match a with | ⟨0, _⟩ => rfl | ⟨1, _⟩ => rfl⟩
  rw [out7_apply, M_eq, v_eq, weights_at, pair_at, pair_at, if_pos rfl, if_neg (by decide)]
  unfold Data.wNew
  rw [emb7_row, emb7_col]

/-- The codes the reference leaves. -/
theorem final8 : (dats m 0 c).arrAt 8 cfg0.N = (data m c).cArr := by
  unfold Data.cArr
  refine (dats m 0 c).arrAt_eq_of_covers 8 _ (by decide +kernel) fun t hf y => ?_
  blk_simp
  rw [after0_8]
  obtain ⟨i, j, rfl⟩ : ∃ (i : Fin 2880) (j : Fin 24576), y = ix2 i j := ⟨y 0, y 1, by funext a; match a with | ⟨0, _⟩ => rfl | ⟨1, _⟩ => rfl⟩
  rw [out8_apply, M_eq]
  unfold Data.cNew
  rw [emb8_row, emb8_col]

/-- The scales the reference leaves. -/
theorem final9 : (dats m 0 c).arrAt 9 cfg0.N = (data m c).sArr := by
  unfold Data.sArr
  refine (dats m 0 c).arrAt_eq_of_covers 9 _ (by decide +kernel) fun t hf y => ?_
  blk_simp
  rw [after0_9]
  obtain ⟨b, j, rfl⟩ : ∃ (b : Fin 48) (j : Fin 512), y = ix3 b 0 j :=
    ⟨y 0, y 2, by funext a; match a with | ⟨0, _⟩ => rfl | ⟨1, _⟩ => exact Subsingleton.elim (α := Fin 1) _ _ | ⟨2, _⟩ => rfl⟩
  rw [out9_apply, M_eq]
  unfold Data.sNew
  rw [emb9_blk, emb9_lane]
  rfl

/-- The second moments the reference leaves. -/
theorem final10 : (dats m 0 c).arrAt 10 cfg0.N = (data m c).vArr := by
  unfold Data.vArr
  refine (dats m 0 c).arrAt_eq_of_covers 10 _ (by decide +kernel) fun t hf y => ?_
  blk_simp
  rw [after0_10]
  obtain ⟨b, j, rfl⟩ : ∃ (b : Fin 48) (j : Fin 512), y = ix3 b 0 j :=
    ⟨y 0, y 2, by funext a; match a with | ⟨0, _⟩ => rfl | ⟨1, _⟩ => exact Subsingleton.elim (α := Fin 1) _ _ | ⟨2, _⟩ => rfl⟩
  rw [out10_apply, v_eq]
  rw [emb10_blk, emb10_lane]
  rfl

end Cert.ReferenceIdeal.Final

end
-- ==== Proof.Agree.lean ====
module

public import proofs.«01_k».proof.Defs
public import proofs.«01_k».proof.Proof.KFinal
public import proofs.«01_k».proof.Proof.RFinal

@[expose] public section

noncomputable section

/-! The kernel and the reference leave the same arrays. -/

namespace Cert.Agree

open Idealize.ShloMosaic Idealize.SL.Sem

/-- The logarithm of the first decay, as both programs write it, is a negative number. -/
theorem log_b1 : ∃ C : ℝ, C < 0 ∧ Ideal.ofBits .f32 0xBDD7C745#32 = (C : EReal) := by
  refine ⟨_, ?_, by simp only [Ideal.ofBits, Ideal.ieee]; rw [if_neg (by decide), if_neg (by decide)]⟩
  have : (BitVec.extractLsb' (8 + 23) 1 0xBDD7C745#32 == 1#1) = true := by decide
  rw [this]
  simp only [if_true]
  rw [neg_one_mul, neg_mul, neg_lt_zero]
  positivity

/-- The first bias correction is not zero at a step that is not zero: it is `1 - exp (step · log β₁)`. -/
theorem correction_ne (s : IVec KernelIdeal.S_ 32) (h : s (fun a => a.elim0) ≠ 0#32) :
    KernelIdeal.Final.correction 0xBDD7C745#32 s (fun a => a.elim0) ≠ 0 := by
  obtain ⟨C, hC, e⟩ := log_b1
  have hs : ((s (fun a => a.elim0)).toInt : ℝ) ≠ 0 := by
    intro z
    apply h
    apply BitVec.eq_of_toInt_eq
    simpa using z
  have e2 : KernelIdeal.Final.correction 0xBDD7C745#32 s (fun a => a.elim0)
      = -(Ideal.exp ((((s (fun a => a.elim0)).toInt : ℝ) : EReal) * Ideal.ofBits .f32 0xBDD7C745#32) - 1) := rfl
  rw [e2, e, ← EReal.coe_mul, Ideal.exp_coe]
  have e3 : Real.exp (((s (fun a => a.elim0)).toInt : ℝ) * C) ≠ 1 := by
    rw [ne_eq, Real.exp_eq_one_iff]
    exact mul_ne_zero hs hC.ne
  intro z
  apply e3
  have z2 : ((-(Real.exp (((s (fun a => a.elim0)).toInt : ℝ) * C) - 1) : ℝ) : EReal) = ((0 : ℝ) : EReal) := by
    rw [EReal.coe_neg, EReal.coe_sub, EReal.coe_one, EReal.coe_zero]
    exact z
  have := EReal.coe_eq_coe_iff.mp z2
  linarith

/-- At step zero a bias correction is zero. -/
theorem correction_zero (b : BitVec 32) (s : IVec KernelIdeal.S_ 32) (h : s (fun a => a.elim0) = 0#32) :
    KernelIdeal.Final.correction b s (fun a => a.elim0) = 0 := by
  have e : KernelIdeal.Final.correction b s (fun a => a.elim0)
      = -(Ideal.exp ((((s (fun a => a.elim0)).toInt : ℝ) : EReal) * Ideal.ofBits .f32 b) - 1) := rfl
  rw [e, h]
  have z : (((0#32 : BitVec 32).toInt : ℝ) : EReal) = 0 := by simp
  rw [z, zero_mul, ← EReal.coe_zero, Ideal.exp_coe, Real.exp_zero, ← EReal.coe_one, ← EReal.coe_sub, sub_self, EReal.coe_zero, neg_zero]

/-- So the first bias correction is zero only with the second. -/
theorem corrections (b : BitVec 32) (s : IVec KernelIdeal.S_ 32) (h : KernelIdeal.Final.correction 0xBDD7C745#32 s (fun a => a.elim0) = 0) :
    KernelIdeal.Final.correction b s (fun a => a.elim0) = 0 := by
  by_cases hs : s (fun a => a.elim0) = 0#32
  · exact correction_zero b s hs
  · exact absurd h (correction_ne s hs)

theorem rows_eq (r : IVec KernelIdeal.S24576 32) : ReferenceIdeal.Final.rows r = KernelIdeal.Final.rows r := rfl

theorem gathered_eq (x : FVec Ideal KernelIdeal.S64000 .f32) (r : IVec KernelIdeal.S24576 32) :
    ReferenceIdeal.Final.gathered x r = KernelIdeal.Final.gathered x r := by
  unfold ReferenceIdeal.Final.gathered KernelIdeal.Final.gathered
  rw [rows_eq]
  rfl

theorem ages_eq (x : IVec KernelIdeal.S64000 32) (s : IVec KernelIdeal.S_ 32) (r : IVec KernelIdeal.S24576 32) :
    ReferenceIdeal.Final.ages x s r = KernelIdeal.Final.ages x s r := by
  unfold ReferenceIdeal.Final.ages KernelIdeal.Final.ages
  rw [rows_eq]
  rfl

theorem correction_eq (b : BitVec 32) (s : IVec KernelIdeal.S_ 32) : ReferenceIdeal.Final.correction b s = KernelIdeal.Final.correction b s := rfl

/-- Both programs read the same data from the same arrays. -/
theorem dataOf_eq (x0 : FVec Ideal KernelIdeal.S2880x24576 .bf16) (x1 : FVec Ideal KernelIdeal.S2880x24576 .fp8e4m3)
    (x2 x3 : FVec Ideal KernelIdeal.S64000 .f32) (x4 : IVec KernelIdeal.S64000 32) (x5 : IVec KernelIdeal.S_ 32)
    (x6 : IVec KernelIdeal.S24576 32) (x7 : FVec Ideal KernelIdeal.S6x4096x2880 .bf16) :
    ReferenceIdeal.Final.dataOf x0 x1 x2 x3 x4 x5 x6 x7 = KernelIdeal.Final.dataOf x0 x1 x2 x3 x4 x5 x6 x7 := by
  unfold ReferenceIdeal.Final.dataOf KernelIdeal.Final.dataOf
  rw [gathered_eq, gathered_eq, ages_eq, correction_eq, correction_eq]

/-- From memories that agree on the arguments, both programs read the same data. -/
theorem data_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    ReferenceIdeal.Final.data m' c = KernelIdeal.Final.data m c := by
  unfold ReferenceIdeal.Final.data KernelIdeal.Final.data
  rw [h0, h1, h2, h3, h4, h5, h6, h7]
  exact dataOf_eq _ _ _ _ _ _ _ _

/-- Both programs run and leave equal arrays, element by element over the extended reals. -/
theorem algebraic : algebraic_KernelIdeal_ReferenceIdeal := by
  intro m g m' g' _ ha
  have hd : ∀ c, ReferenceIdeal.Final.data m' c = KernelIdeal.Final.data m c := fun c =>
    data_eq m m' c (ha c).1 (ha c).2.1 (ha c).2.2.1 (ha c).2.2.2.1 (ha c).2.2.2.2.1 (ha c).2.2.2.2.2.1 (ha c).2.2.2.2.2.2.1 (ha c).2.2.2.2.2.2.2
  refine ⟨fun c => (KernelIdeal.Final.data m c).wArr, fun c => (KernelIdeal.Final.data m c).cArr,
    fun c => (KernelIdeal.Final.data m c).sArr, fun c => (KernelIdeal.Final.data m c).vArr, ?_, ?_⟩
  · refine (θ_run KernelIdeal.defs _ _).mono (fun r h c => ?_) (KernelIdeal.Run.run_blocks m g)
    obtain ⟨r0, r1, r2, r3, rest⟩ := h c
    exact ⟨r0.trans (KernelIdeal.Final.final7 m c (corrections _ _)), r1.trans (KernelIdeal.Final.final8 m c),
      r2.trans (KernelIdeal.Final.final9 m c), r3.trans (KernelIdeal.Final.final10 m c), rest⟩
  · refine (θ_run ReferenceIdeal.defs _ _).mono (fun r h c => ?_) (ReferenceIdeal.Run.run_blocks m' g')
    obtain ⟨r0, r1, r2, r3, rest⟩ := h c
    refine ⟨r0.trans ?_, r1.trans ?_, r2.trans ?_, r3.trans ?_, rest⟩
    · rw [ReferenceIdeal.Final.final7, hd c]
    · rw [ReferenceIdeal.Final.final8, hd c]
    · rw [ReferenceIdeal.Final.final9, hd c]
    · rw [ReferenceIdeal.Final.final10, hd c]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.BRun
public import proofs.«01_k».proof.Proof.KRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The claims: the kernel, its idealization, the reference and its idealization run without a fault, end, and leave their arguments
    and semaphores as they were; the kernel's idealization differs from it only in the named constant `1 / 2880`, and the
    reference's in nothing; and over the extended reals the kernel and the reference leave equal results. -/
theorem claim : Cert.Claim :=
  ⟨Cert.Kernel.Gen.facts, Cert.KernelIdeal.Gen.facts, Cert.Reference.Gen.facts, Cert.ReferenceIdeal.Gen.facts,
    fun m ρ _ => Cert.Kernel.Run.frame m ρ,
    fun m ρ _ => Cert.KernelIdeal.Run.frame m ρ,
    fun m ρ _ => Cert.Reference.Gen.frame m ρ,
    fun m ρ _ => Cert.ReferenceIdeal.Gen.frame m ρ,
    IdealRules.named_const.statement Cert.KernelIdeal.κ "inv_d" .f32 _ _ rfl,
    trivial,
    Cert.Agree.algebraic⟩

end Cert.Proof

end
